-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_1)) (v3 : (c : Dev Cert.KernelIdeal.nD) → Buf (Elt Ideal) ((c.tc : Thread Cert.KernelIdeal.nD Cert.KernelIdeal.τ).loc Cert.KernelIdeal.main_v2_2)) (v4 : (c : Dev Cert.KernelIdeal.nD) → Buf (Elt Ideal) ((c.tc : Thread Cert.KernelIdeal.nD Cert.KernelIdeal.τ).loc Cert.KernelIdeal.main_v2_3)) (v5 : (c : Dev Cert.KernelIdeal.nD) → Buf (Elt Ideal) ((c.tc : Thread Cert.KernelIdeal.nD Cert.KernelIdeal.τ).loc Cert.KernelIdeal.main_v2_4)) (v6 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_v2_2) = v3 c
          ∧ r.2.mem ((c.tc : Thread Cert.KernelIdeal.nD Cert.KernelIdeal.τ).loc Cert.KernelIdeal.main_v2_3) = v4 c
          ∧ r.2.mem ((c.tc : Thread Cert.KernelIdeal.nD Cert.KernelIdeal.τ).loc Cert.KernelIdeal.main_v2_4) = v5 c
          ∧ r.2.mem ((c.tc : Thread Cert.KernelIdeal.nD Cert.KernelIdeal.τ).loc Cert.KernelIdeal.main_v2_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_0) = v0 c
          ∧ r.2.mem ((c.tc : Thread Cert.ReferenceIdeal.nD Cert.ReferenceIdeal.τ).loc Cert.ReferenceIdeal.main_v9_1) = v1 c
          ∧ r.2.mem ((c.tc : Thread Cert.ReferenceIdeal.nD Cert.ReferenceIdeal.τ).loc Cert.ReferenceIdeal.main_v9_2) = v2 c
          ∧ r.2.mem ((c.tc : Thread Cert.ReferenceIdeal.nD Cert.ReferenceIdeal.τ).loc Cert.ReferenceIdeal.main_v9_3) = v3 c
          ∧ r.2.mem ((c.tc : Thread Cert.ReferenceIdeal.nD Cert.ReferenceIdeal.τ).loc Cert.ReferenceIdeal.main_v9_4) = v4 c
          ∧ r.2.mem ((c.tc : Thread Cert.ReferenceIdeal.nD Cert.ReferenceIdeal.τ).loc Cert.ReferenceIdeal.main_v9_5) = v5 c
          ∧ r.2.mem ((c.tc : Thread Cert.ReferenceIdeal.nD Cert.ReferenceIdeal.τ).loc Cert.ReferenceIdeal.main_v9_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x7168 : Shape := ⟨3, ![2, 2048, 7168]⟩
abbrev S7168x18432 : Shape := ⟨2, ![7168, 18432]⟩
abbrev S18432 : Shape := ⟨1, ![18432]⟩
abbrev S128x7168 : Shape := ⟨2, ![128, 7168]⟩
abbrev S128 : Shape := ⟨1, ![128]⟩
abbrev S33x128x128 : Shape := ⟨3, ![33, 128, 128]⟩
abbrev S33x128 : Shape := ⟨2, ![33, 128]⟩
abbrev S128x18432 : Shape := ⟨2, ![128, 18432]⟩
abbrev S33 : Shape := ⟨1, ![33]⟩
abbrev S4096x7168 : Shape := ⟨2, ![4096, 7168]⟩
abbrev S1x128 : Shape := ⟨2, ![1, 128]⟩
abbrev S2x2048 : Shape := ⟨2, ![2, 2048]⟩
abbrev S4096x128 : Shape := ⟨2, ![4096, 128]⟩
abbrev S256x7168 : Shape := ⟨2, ![256, 7168]⟩
abbrev S256x128 : Shape := ⟨2, ![256, 128]⟩
abbrev S256 : Shape := ⟨1, ![256]⟩
abbrev S256x1 : Shape := ⟨2, ![256, 1]⟩
abbrev S1x246 : Shape := ⟨2, ![1, 246]⟩
abbrev S256x246 : Shape := ⟨2, ![256, 246]⟩
abbrev S1 : Shape := ⟨1, ![1]⟩
abbrev S1x128x128 : Shape := ⟨3, ![1, 128, 128]⟩
abbrev S128x128 : Shape := ⟨2, ![128, 128]⟩
abbrev S128x256 : Shape := ⟨2, ![128, 256]⟩
abbrev S1x256 : Shape := ⟨2, ![1, 256]⟩
abbrev S1x18432 : Shape := ⟨2, ![1, 18432]⟩
abbrev S4096x18432 : Shape := ⟨2, ![4096, 18432]⟩
abbrev S7168x512 : Shape := ⟨2, ![7168, 512]⟩
abbrev S1x512 : Shape := ⟨2, ![1, 512]⟩
abbrev S128x512 : Shape := ⟨2, ![128, 512]⟩
abbrev S4096x512 : Shape := ⟨2, ![4096, 512]⟩
abbrev S1024x7168 : Shape := ⟨2, ![1024, 7168]⟩
abbrev S1024x512 : Shape := ⟨2, ![1024, 512]⟩
abbrev S1024x128 : Shape := ⟨2, ![1024, 128]⟩

abbrev nBuf : Space → Nat
  | .hbm => 23
  | .vmem => 34
  | .smem => 1
  | _ => 0

abbrev bufTy : (tb : Table) → Fin (tcTables nBuf tb) → BufTy
  | .hbm, ⟨0, _⟩ => ⟨S2x2048x7168, .bf16⟩
  | .hbm, ⟨1, _⟩ => ⟨S7168x18432, .fp8e4m3⟩
  | .hbm, ⟨2, _⟩ => ⟨S18432, .f32⟩
  | .hbm, ⟨3, _⟩ => ⟨S128x7168, .fp8e4m3⟩
  | .hbm, ⟨4, _⟩ => ⟨S128, .f32⟩
  | .hbm, ⟨5, _⟩ => ⟨S33x128x128, .i8⟩
  | .hbm, ⟨6, _⟩ => ⟨S33x128, .f32⟩
  | .hbm, ⟨7, _⟩ => ⟨S128x18432, .fp8e4m3⟩
  | .hbm, ⟨8, _⟩ => ⟨S18432, .f32⟩
  | .hbm, ⟨9, _⟩ => ⟨S33, .i32⟩
  | .hbm, ⟨10, _⟩ => ⟨S4096x7168, .bf16⟩
  | .hbm, ⟨11, _⟩ => ⟨S1x128, .f32⟩
  | .hbm, ⟨12, _⟩ => ⟨S4096x7168, .fp8e4m3⟩
  | .hbm, ⟨13, _⟩ => ⟨S2x2048, .f32⟩
  | .hbm, ⟨14, _⟩ => ⟨S4096x128, .i8⟩
  | .hbm, ⟨15, _⟩ => ⟨S2x2048, .f32⟩
  | .hbm, ⟨16, _⟩ => ⟨S4096x128, .fp8e4m3⟩
  | .hbm, ⟨17, _⟩ => ⟨S2x2048, .f32⟩
  | .hbm, ⟨18, _⟩ => ⟨S4096x128, .f32⟩
  | .hbm, ⟨19, _⟩ => ⟨S4096x128, .f32⟩
  | .hbm, ⟨20, _⟩ => ⟨S1x18432, .f32⟩
  | .hbm, ⟨21, _⟩ => ⟨S1x18432, .f32⟩
  | .hbm, ⟨22, _⟩ => ⟨S4096x18432, .bf16⟩
  | .local _ .vmem, ⟨0, _⟩ => ⟨S256x7168, .bf16⟩
  | .local _ .vmem, ⟨1, _⟩ => ⟨S256x7168, .bf16⟩
  | .local _ .vmem, ⟨2, _⟩ => ⟨S128x7168, .fp8e4m3⟩
  | .local _ .vmem, ⟨3, _⟩ => ⟨S1x128, .f32⟩
  | .local _ .vmem, ⟨4, _⟩ => ⟨S33x128x128, .i8⟩
  | .local _ .vmem, ⟨5, _⟩ => ⟨S33x128, .f32⟩
  | .local _ .vmem, ⟨6, _⟩ => ⟨S256x7168, .fp8e4m3⟩
  | .local _ .vmem, ⟨7, _⟩ => ⟨S256x7168, .fp8e4m3⟩
  | .local _ .vmem, ⟨8, _⟩ => ⟨S2x2048, .f32⟩
  | .local _ .vmem, ⟨9, _⟩ => ⟨S256x128, .i8⟩
  | .local _ .vmem, ⟨10, _⟩ => ⟨S256x128, .i8⟩
  | .local _ .vmem, ⟨11, _⟩ => ⟨S2x2048, .f32⟩
  | .local _ .vmem, ⟨12, _⟩ => ⟨S256x128, .fp8e4m3⟩
  | .local _ .vmem, ⟨13, _⟩ => ⟨S256x128, .fp8e4m3⟩
  | .local _ .vmem, ⟨14, _⟩ => ⟨S2x2048, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S4096x7168, .fp8e4m3⟩
  | .local _ .vmem, ⟨21, _⟩ => ⟨S4096x128, .fp8e4m3⟩
  | .local _ .vmem, ⟨22, _⟩ => ⟨S4096x128, .f32⟩
  | .local _ .vmem, ⟨23, _⟩ => ⟨S4096x128, .f32⟩
  | .local _ .vmem, ⟨24, _⟩ => ⟨S7168x512, .fp8e4m3⟩
  | .local _ .vmem, ⟨25, _⟩ => ⟨S7168x512, .fp8e4m3⟩
  | .local _ .vmem, ⟨26, _⟩ => ⟨S1x512, .f32⟩
  | .local _ .vmem, ⟨27, _⟩ => ⟨S1x512, .f32⟩
  | .local _ .vmem, ⟨28, _⟩ => ⟨S128x512, .fp8e4m3⟩
  | .local _ .vmem, ⟨29, _⟩ => ⟨S128x512, .fp8e4m3⟩
  | .local _ .vmem, ⟨30, _⟩ => ⟨S1x512, .f32⟩
  | .local _ .vmem, ⟨31, _⟩ => ⟨S1x512, .f32⟩
  | .local _ .vmem, ⟨32, _⟩ => ⟨S4096x512, .bf16⟩
  | .local _ .vmem, ⟨33, _⟩ => ⟨S4096x512, .bf16⟩
  | .local _ .smem, ⟨0, _⟩ => ⟨S33, .i32⟩
  | _, _ => ⟨S2x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev main_v2_5 : Ref sig .tc := ⟨.hbm, 17, rfl⟩
abbrev main_v2_6 : Ref sig .tc := ⟨.hbm, 18, rfl⟩
abbrev main_v2_7 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc1_sem0_0 : DmaSem sig := 20
abbrev cc1_sem1_0 : DmaSem sig := 21
abbrev cc1_sem2_0 : DmaSem sig := 22
abbrev cc1_sem3_0 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_30 : BitVec 32 := 0#32
  let c33_i32 : BitVec 32 := 33#32
  let v82 : BitVec 32 := Scalar.addi c0_i32_30 c33_i32
  let c1_i32_31 : BitVec 32 := 1#32
  ⟨c0_i32_30, v82, c1_i32_31⟩
def k0_off1 (k0_t1 : Fin k0_t1_loop.trips) : Fin 1 → Nat :=
  let c0_i32_30 : BitVec 32 := 0#32
  let c1_i32_31 : BitVec 32 := 1#32
  let arg16 : BitVec 32 := Scf.iv c0_i32_30 c1_i32_31 k0_t1
  let v183 : Index := Scalar.indexCast arg16
  ![v183.toNat]
def k0_off2 (k0_t1 : Fin k0_t1_loop.trips) : Fin 3 → Nat :=
  let c0_i32_30 : BitVec 32 := 0#32
  let c1_i32_31 : BitVec 32 := 1#32
  let arg16 : BitVec 32 := Scf.iv c0_i32_30 c1_i32_31 k0_t1
  let v194 : Index := Scalar.indexCast arg16
  let c0_71 : Index := 0#32
  let c0_72 : Index := 0#32
  ![v194.toNat, 0, 0]
def k0_off3 (k0_t1 : Fin k0_t1_loop.trips) : Fin 2 → Nat :=
  let c0_i32_30 : BitVec 32 := 0#32
  let c1_i32_31 : BitVec 32 := 1#32
  let arg16 : BitVec 32 := Scf.iv c0_i32_30 c1_i32_31 k0_t1
  let v201 : Index := Scalar.indexCast arg16
  let c0_74 : Index := 0#32
  ![v201.toNat, 0]
def k0_mult1 (i : grid0.Coords) : BitVec 32 :=
  let arg0 : BitVec 32 := BitVec.ofNat 32 (i 0).val
  let c256_i32 : BitVec 32 := 256#32
  let v74 : BitVec 32 := Scalar.muli arg0 c256_i32
  let c2048_i32_63 : BitVec 32 := 2048#32
  let c0_i32_64 : BitVec 32 := 0#32
  let v151 : BitVec 1 := Scalar.cmpi .eq c2048_i32_63 c0_i32_64
  let c1_i32_65 : BitVec 32 := 1#32
  let v152 : BitVec 32 := Scalar.select v151 c1_i32_65 c2048_i32_63
  let v153 : BitVec 32 := Scalar.remsi v74 v152
  let c0_i32_67 : BitVec 32 := 0#32
  let v155 : BitVec 1 := Scalar.cmpi .slt v153 c0_i32_67
  let c0_i32_68 : BitVec 32 := 0#32
  let v156 : BitVec 1 := Scalar.cmpi .slt v152 c0_i32_68
  let v157 : BitVec 1 := Scalar.xori v155 v156
  let c0_i32_66 : BitVec 32 := 0#32
  let v154 : BitVec 1 := Scalar.cmpi .ne v153 c0_i32_66
  let v158 : BitVec 1 := Scalar.andi v157 v154
  let v159 : BitVec 32 := Scalar.addi v153 v152
  let v160 : BitVec 32 := Scalar.select v158 v159 v153
  v160
def k0_off4 (i : grid0.Coords) : Fin 2 → Nat :=
  let arg0 : BitVec 32 := BitVec.ofNat 32 (i 0).val
  let c256_i32 : BitVec 32 := 256#32
  let v74 : BitVec 32 := Scalar.muli arg0 c256_i32
  let c0_i32_57 : BitVec 32 := 0#32
  let v135 : BitVec 1 := Scalar.cmpi .sgt v74 c0_i32_57
  let v136 : BitVec 32 := Scalar.extui v135
  let c0_i32_58 : BitVec 32 := 0#32
  let v137 : BitVec 1 := Scalar.cmpi .slt v74 c0_i32_58
  let v138 : BitVec 32 := Scalar.extui v137
  let v139 : BitVec 32 := Scalar.subi v136 v138
  let c2048_i32 : BitVec 32 := 2048#32
  let c0_i32_59 : BitVec 32 := 0#32
  let v140 : BitVec 1 := Scalar.cmpi .sgt c2048_i32 c0_i32_59
  let v141 : BitVec 32 := Scalar.extui v140
  let c0_i32_60 : BitVec 32 := 0#32
  let v142 : BitVec 1 := Scalar.cmpi .slt c2048_i32 c0_i32_60
  let v143 : BitVec 32 := Scalar.extui v142
  let v144 : BitVec 32 := Scalar.subi v141 v143
  let v145 : BitVec 1 := Scalar.cmpi .ne v139 v144
  let v146 : BitVec 32 := Scalar.remsi v74 c2048_i32
  let c0_i32_61 : BitVec 32 := 0#32
  let v147 : BitVec 1 := Scalar.cmpi .ne v146 c0_i32_61
  let v148 : BitVec 1 := Scalar.andi v145 v147
  let v134 : BitVec 32 := Scalar.divsi v74 c2048_i32
  let c1_i32_62 : BitVec 32 := 1#32
  let v149 : BitVec 32 := Scalar.subi v134 c1_i32_62
  let v150 : BitVec 32 := Scalar.select v148 v149 v134
  let v166 : Index := Scalar.indexCast v150
  let c2048_i32_63 : BitVec 32 := 2048#32
  let c0_i32_64 : BitVec 32 := 0#32
  let v151 : BitVec 1 := Scalar.cmpi .eq c2048_i32_63 c0_i32_64
  let c1_i32_65 : BitVec 32 := 1#32
  let v152 : BitVec 32 := Scalar.select v151 c1_i32_65 c2048_i32_63
  let v153 : BitVec 32 := Scalar.remsi v74 v152
  let c0_i32_67 : BitVec 32 := 0#32
  let v155 : BitVec 1 := Scalar.cmpi .slt v153 c0_i32_67
  let c0_i32_68 : BitVec 32 := 0#32
  let v156 : BitVec 1 := Scalar.cmpi .slt v152 c0_i32_68
  let v157 : BitVec 1 := Scalar.xori v155 v156
  let c0_i32_66 : BitVec 32 := 0#32
  let v154 : BitVec 1 := Scalar.cmpi .ne v153 c0_i32_66
  let v158 : BitVec 1 := Scalar.andi v157 v154
  let v159 : BitVec 32 := Scalar.addi v153 v152
  let v160 : BitVec 32 := Scalar.select v158 v159 v153
  let v161 : BitVec 32 := v160
  let v167 : Index := Scalar.indexCast v161
  ![v166.toNat, v167.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S33 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S33x128x128 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S33x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![36], ![false]⟩

@[reducible] def k1_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k1_mult1 (k1_t1 : Fin k1_t1_loop.trips) : BitVec 32 :=
  let c0_i32 : BitVec 32 := 0#32
  let c1_i32 : BitVec 32 := 1#32
  let arg10 : BitVec 32 := Scf.iv c0_i32 c1_i32 k1_t1
  let c1024_i32 : BitVec 32 := 1024#32
  let v5 : BitVec 32 := Scalar.muli arg10 c1024_i32
  v5
def k1_off1 (k1_t1 : Fin k1_t1_loop.trips) : Fin 2 → Nat :=
  let c0_i32 : BitVec 32 := 0#32
  let c1_i32 : BitVec 32 := 1#32
  let arg10 : BitVec 32 := Scf.iv c0_i32 c1_i32 k1_t1
  let c1024_i32 : BitVec 32 := 1024#32
  let v5 : BitVec 32 := Scalar.muli arg10 c1024_i32
  let v6 : BitVec 32 := v5
  let v7 : Index := Scalar.indexCast v6
  let c0_4 : Index := 0#32
  ![v7.toNat, 0]
def k1_off2 (k1_t1 : Fin k1_t1_loop.trips) : Fin 2 → Nat :=
  let c0_i32 : BitVec 32 := 0#32
  let c1_i32 : BitVec 32 := 1#32
  let arg10 : BitVec 32 := Scf.iv c0_i32 c1_i32 k1_t1
  let c1024_i32 : BitVec 32 := 1024#32
  let v5 : BitVec 32 := Scalar.muli arg10 c1024_i32
  let v6 : BitVec 32 := v5
  let v12 : Index := Scalar.indexCast v6
  let c0_7 : Index := 0#32
  ![v12.toNat, 0]
def k1_off3 (k1_t1 : Fin k1_t1_loop.trips) : Fin 2 → Nat :=
  let c0_i32 : BitVec 32 := 0#32
  let c1_i32 : BitVec 32 := 1#32
  let arg10 : BitVec 32 := Scf.iv c0_i32 c1_i32 k1_t1
  let c1024_i32 : BitVec 32 := 1024#32
  let v5 : BitVec 32 := Scalar.muli arg10 c1024_i32
  let v6 : BitVec 32 := v5
  let v35 : Index := Scalar.indexCast v6
  let c0_13 : Index := 0#32
  ![v35.toNat, 0]
def k1_off4 (k1_t1 : Fin k1_t1_loop.trips) : Fin 2 → Nat :=
  let c0_i32 : BitVec 32 := 0#32
  let c1_i32 : BitVec 32 := 1#32
  let arg10 : BitVec 32 := Scf.iv c0_i32 c1_i32 k1_t1
  let c1024_i32 : BitVec 32 := 1024#32
  let v5 : BitVec 32 := Scalar.muli arg10 c1024_i32
  let v6 : BitVec 32 := v5
  let v49 : Index := Scalar.indexCast v6
  let c128 : Index := 128#32
  ![v49.toNat, 128]
def k1_off5 (k1_t1 : Fin k1_t1_loop.trips) : Fin 2 → Nat :=
  let c0_i32 : BitVec 32 := 0#32
  let c1_i32 : BitVec 32 := 1#32
  let arg10 : BitVec 32 := Scf.iv c0_i32 c1_i32 k1_t1
  let c1024_i32 : BitVec 32 := 1024#32
  let v5 : BitVec 32 := Scalar.muli arg10 c1024_i32
  let v6 : BitVec 32 := v5
  let v63 : Index := Scalar.indexCast v6
  let c256 : Index := 256#32
  ![v63.toNat, 256]
def k1_off6 (k1_t1 : Fin k1_t1_loop.trips) : Fin 2 → Nat :=
  let c0_i32 : BitVec 32 := 0#32
  let c1_i32 : BitVec 32 := 1#32
  let arg10 : BitVec 32 := Scf.iv c0_i32 c1_i32 k1_t1
  let c1024_i32 : BitVec 32 := 1024#32
  let v5 : BitVec 32 := Scalar.muli arg10 c1024_i32
  let v6 : BitVec 32 := v5
  let v77 : Index := Scalar.indexCast v6
  let c384 : Index := 384#32
  ![v77.toNat, 384]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S4096x7168 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x128 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S7168x512 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x512 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4096x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S2x2048x7168 : Shape := ⟨3, ![2, 2048, 7168]⟩
abbrev S7168x18432 : Shape := ⟨2, ![7168, 18432]⟩
abbrev S18432 : Shape := ⟨1, ![18432]⟩
abbrev S128x7168 : Shape := ⟨2, ![128, 7168]⟩
abbrev S128 : Shape := ⟨1, ![128]⟩
abbrev S33x128x128 : Shape := ⟨3, ![33, 128, 128]⟩
abbrev S33x128 : Shape := ⟨2, ![33, 128]⟩
abbrev S128x18432 : Shape := ⟨2, ![128, 18432]⟩
abbrev S33 : Shape := ⟨1, ![33]⟩
abbrev S_ : Shape := ⟨0, ![]⟩
abbrev S4096x7168 : Shape := ⟨2, ![4096, 7168]⟩
abbrev S1x18432 : Shape := ⟨2, ![1, 18432]⟩
abbrev S1x128 : Shape := ⟨2, ![1, 128]⟩
abbrev S33x1x128 : Shape := ⟨3, ![33, 1, 128]⟩
abbrev S33x1x1 : Shape := ⟨3, ![33, 1, 1]⟩
abbrev S4096x18432 : Shape := ⟨2, ![4096, 18432]⟩
abbrev S2x2048 : Shape := ⟨2, ![2, 2048]⟩
abbrev S4096x128 : Shape := ⟨2, ![4096, 128]⟩
abbrev S4096 : Shape := ⟨1, ![4096]⟩
abbrev S4096x1 : Shape := ⟨2, ![4096, 1]⟩
abbrev S1x246 : Shape := ⟨2, ![1, 246]⟩
abbrev S4096x246 : Shape := ⟨2, ![4096, 246]⟩
abbrev S33x4096x1 : Shape := ⟨3, ![33, 4096, 1]⟩
abbrev S1x4096x1 : Shape := ⟨3, ![1, 4096, 1]⟩
abbrev S1x4096x128 : Shape := ⟨3, ![1, 4096, 128]⟩
abbrev S33x4096x128 : Shape := ⟨3, ![33, 4096, 128]⟩

abbrev nBuf : Space → Nat
  | .hbm => 28
  | .vmem => 18
  | .smem => 0
  | _ => 0

abbrev bufTy : (tb : Table) → Fin (tcTables nBuf tb) → BufTy
  | .hbm, ⟨0, _⟩ => ⟨S2x2048x7168, .bf16⟩
  | .hbm, ⟨1, _⟩ => ⟨S7168x18432, .fp8e4m3⟩
  | .hbm, ⟨2, _⟩ => ⟨S18432, .f32⟩
  | .hbm, ⟨3, _⟩ => ⟨S128x7168, .fp8e4m3⟩
  | .hbm, ⟨4, _⟩ => ⟨S128, .f32⟩
  | .hbm, ⟨5, _⟩ => ⟨S33x128x128, .i8⟩
  | .hbm, ⟨6, _⟩ => ⟨S33x128, .f32⟩
  | .hbm, ⟨7, _⟩ => ⟨S128x18432, .fp8e4m3⟩
  | .hbm, ⟨8, _⟩ => ⟨S18432, .f32⟩
  | .hbm, ⟨9, _⟩ => ⟨S33, .i32⟩
  | .hbm, ⟨10, _⟩ => ⟨S_, .i32⟩
  | .hbm, ⟨11, _⟩ => ⟨S_, .i32⟩
  | .hbm, ⟨12, _⟩ => ⟨S33, .i32⟩
  | .hbm, ⟨13, _⟩ => ⟨S33, .i32⟩
  | .hbm, ⟨14, _⟩ => ⟨S4096x7168, .bf16⟩
  | .hbm, ⟨15, _⟩ => ⟨S1x18432, .f32⟩
  | .hbm, ⟨16, _⟩ => ⟨S1x128, .f32⟩
  | .hbm, ⟨17, _⟩ => ⟨S33x1x128, .f32⟩
  | .hbm, ⟨18, _⟩ => ⟨S1x18432, .f32⟩
  | .hbm, ⟨19, _⟩ => ⟨S33x1x1, .i32⟩
  | .hbm, ⟨20, _⟩ => ⟨S33x1x1, .i32⟩
  | .hbm, ⟨21, _⟩ => ⟨S4096x18432, .bf16⟩
  | .hbm, ⟨22, _⟩ => ⟨S4096x7168, .fp8e4m3⟩
  | .hbm, ⟨23, _⟩ => ⟨S2x2048, .f32⟩
  | .hbm, ⟨24, _⟩ => ⟨S4096x128, .i8⟩
  | .hbm, ⟨25, _⟩ => ⟨S2x2048, .f32⟩
  | .hbm, ⟨26, _⟩ => ⟨S4096x128, .fp8e4m3⟩
  | .hbm, ⟨27, _⟩ => ⟨S2x2048, .f32⟩
  | .local _ .vmem, ⟨0, _⟩ => ⟨S4096x7168, .bf16⟩
  | .local _ .vmem, ⟨1, _⟩ => ⟨S7168x18432, .fp8e4m3⟩
  | .local _ .vmem, ⟨2, _⟩ => ⟨S1x18432, .f32⟩
  | .local _ .vmem, ⟨3, _⟩ => ⟨S128x7168, .fp8e4m3⟩
  | .local _ .vmem, ⟨4, _⟩ => ⟨S1x128, .f32⟩
  | .local _ .vmem, ⟨5, _⟩ => ⟨S33x128x128, .i8⟩
  | .local _ .vmem, ⟨6, _⟩ => ⟨S33x1x128, .f32⟩
  | .local _ .vmem, ⟨7, _⟩ => ⟨S128x18432, .fp8e4m3⟩
  | .local _ .vmem, ⟨8, _⟩ => ⟨S1x18432, .f32⟩
  | .local _ .vmem, ⟨9, _⟩ => ⟨S33x1x1, .i32⟩
  | .local _ .vmem, ⟨10, _⟩ => ⟨S33x1x1, .i32⟩
  | .local _ .vmem, ⟨11, _⟩ => ⟨S4096x18432, .bf16⟩
  | .local _ .vmem, ⟨12, _⟩ => ⟨S4096x7168, .fp8e4m3⟩
  | .local _ .vmem, ⟨13, _⟩ => ⟨S2x2048, .f32⟩
  | .local _ .vmem, ⟨14, _⟩ => ⟨S4096x128, .i8⟩
  | .local _ .vmem, ⟨15, _⟩ => ⟨S2x2048, .f32⟩
  | .local _ .vmem, ⟨16, _⟩ => ⟨S4096x128, .fp8e4m3⟩
  | .local _ .vmem, ⟨17, _⟩ => ⟨S2x2048, .f32⟩
  | _, _ => ⟨S2x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_call0_c : Ref sig .tc := ⟨.hbm, 10, rfl⟩
abbrev main_call0_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_v9_5 : Ref sig .tc := ⟨.hbm, 26, rfl⟩
abbrev main_v9_6 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S4096x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x18432 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S33x128x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S33x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x18432 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x18432 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S33x1x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S33x1x1 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096x18432 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4096x7168 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4096x128 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4096x128 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.PrepLoop.lean ====
/-
  The loop over the tenants in the first call's body: one trip, the state that the trips carry, and the loop's invariant.
-/
module

public import proofs.«01_k».proof.Proof.Gen.KernelIdeal.Loops
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

/-- A store made under a condition writes its piece or none. -/
theorem writes_dite {κ : Kind} {sp : Space} {s : Shape} {e : EltTy} {Val : EltTy → Type} (v : View sig κ sp s e) (f : v.ty.Contents Val)
    (L : List (View.Piece Val s e)) (c : Prop) [Decidable c] :
    (if _h : c then v.writes Val f L else f) = v.writes Val f (if c then L else []) := by
  by_cases h : c
  · rw [dif_pos h, if_pos h]
  · rw [dif_neg h, if_neg h]; rfl

/-- What one trip touches: the group sizes, the stacked codes and their scales as they are, and the block's products, at contents `f_arg15`. -/
abbrev Trip_k0_t1 (c : Dev nD) (arg1 : Memref sig .tc .smem S33 .i32) (arg5 : Memref sig .tc .vmem S33x128x128 .i8) (arg6 : Memref sig .tc .vmem S33x128 .f32) (arg15 : Memref sig .tc .vmem S256x128 .f32) (X_arg1 : BufTy.Contents (Elt F) arg1.view.ty) (X_arg5 : BufTy.Contents (Elt F) arg5.view.ty) (X_arg6 : BufTy.Contents (Elt F) arg6.view.ty) (f_arg15 : BufTy.Contents (Elt F) arg15.view.ty) : sProp 𝕄G :=
  iprop((arg1.view.loc (c : Thread nD τ) ↦[arg1.view.set]{fullShare} X_arg1) ∗ (arg5.view.loc (c : Thread nD τ) ↦[arg5.view.set]{fullShare} X_arg5) ∗ (arg6.view.loc (c : Thread nD τ) ↦[arg6.view.set]{fullShare} X_arg6) ∗ (arg15.view.loc (c : Thread nD τ) ↦[arg15.view.set]{fullShare} f_arg15))

/-- One trip, at a symbolic `k` and first row `acc` of tenant `k`: when the tenant's rows meet the block, its product is stored in the
    rows that are its own (what the trip writes is the witness of the run); it yields the first row of the next tenant. -/
@[irreducible] def trip_k0_t1 (𝒱 : Variants) (c : Dev nD) (bd : Option 𝒱.V) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (X_arg1 : BufTy.Contents (Elt F) arg1.view.ty) (X_arg5 : BufTy.Contents (Elt F) arg5.view.ty) (X_arg6 : BufTy.Contents (Elt F) arg6.view.ty) (k : Fin k0_t1_loop.trips) :
    Σ' (R_k0_t1 : ((BitVec 32) → BufTy.Contents (Elt F) arg15.view.ty → BitVec 32)) , { L_arg15 : ((BitVec 32) → BufTy.Contents (Elt F) arg15.view.ty → List (View.Piece (Elt F) S256x128 .f32)) // ∀ (v79 : Vec F S256x128 .f32) (E : Set ℕ) (acc : BitVec 32) (f_arg15 : BufTy.Contents (Elt F) arg15.view.ty),
      Trip_k0_t1 (F := F) c arg1 arg5 arg6 arg15 X_arg1 X_arg5 X_arg6 f_arg15
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 v79 k acc)
          (fun yld => iprop(⌜yld = R_k0_t1 acc f_arg15⌝ ∗ Trip_k0_t1 (F := F) c arg1 arg5 arg6 arg15 X_arg1 X_arg5 X_arg6 (arg15.view.writes (Elt F) f_arg15 (L_arg15 acc f_arg15)))) } := by
  have hk : k.val < 33 := Nat.lt_of_lt_of_le k.isLt k0_t1_abs.2.1
  refine ⟨?_, ?_, fun v79 E acc f_arg15 => ?run⟩
  case run =>
    unfold k0_t1_body
    iintro ⟨HR_arg1, HR_arg5, HR_arg6, HW_arg15⟩
    sl_exec
    first | rw [writes_dite] | erw [writes_dite]
    sl_step
    sl_close

/-- What the trip yields. -/
abbrev tripR_k0_t1 (𝒱 : Variants) (c : Dev nD) (bd : Option 𝒱.V) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (X_arg1 : BufTy.Contents (Elt F) arg1.view.ty) (X_arg5 : BufTy.Contents (Elt F) arg5.view.ty) (X_arg6 : BufTy.Contents (Elt F) arg6.view.ty) (k : Fin k0_t1_loop.trips) (acc : BitVec 32) (f_arg15 : BufTy.Contents (Elt F) arg15.view.ty) : BitVec 32 :=
  (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 k).1 acc f_arg15

/-- What the trip writes into the block's products, of what it finds there. -/
abbrev tripL_k0_t1 (𝒱 : Variants) (c : Dev nD) (bd : Option 𝒱.V) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (X_arg1 : BufTy.Contents (Elt F) arg1.view.ty) (X_arg5 : BufTy.Contents (Elt F) arg5.view.ty) (X_arg6 : BufTy.Contents (Elt F) arg6.view.ty) (k : Fin k0_t1_loop.trips) (acc : BitVec 32) (f_arg15 : BufTy.Contents (Elt F) arg15.view.ty) : List (View.Piece (Elt F) S256x128 .f32) :=
  (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 k).2.1 acc f_arg15

/-- One step of the recursion below. -/
@[irreducible] def st_k0_t1Step (𝒱 : Variants) (c : Dev nD) (bd : Option 𝒱.V) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (X_arg1 : BufTy.Contents (Elt F) arg1.view.ty) (X_arg5 : BufTy.Contents (Elt F) arg5.view.ty) (X_arg6 : BufTy.Contents (Elt F) arg6.view.ty) (G_arg15 : BufTy.Contents (Elt F) arg15.view.ty) (init : BitVec 32) (k : ℕ) (prev : (BitVec 32) × List (View.Piece (Elt F) S256x128 .f32)) : (BitVec 32) × List (View.Piece (Elt F) S256x128 .f32) :=
  if h : k < k0_t1_loop.trips then
    (tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 ⟨k, h⟩ prev.1 (arg15.view.writes (Elt F) G_arg15 prev.2), (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 ⟨k, h⟩ prev.1 (arg15.view.writes (Elt F) G_arg15 prev.2)) ++ prev.2)
  else prev

/-- The state before trip `k`: the tenant's first row, and what the trips before it wrote into the block's products (last first). -/
def st_k0_t1 (𝒱 : Variants) (c : Dev nD) (bd : Option 𝒱.V) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (X_arg1 : BufTy.Contents (Elt F) arg1.view.ty) (X_arg5 : BufTy.Contents (Elt F) arg5.view.ty) (X_arg6 : BufTy.Contents (Elt F) arg6.view.ty) (G_arg15 : BufTy.Contents (Elt F) arg15.view.ty) (init : BitVec 32) : ℕ → (BitVec 32) × List (View.Piece (Elt F) S256x128 .f32)
  | 0 => (init, [])
  | k + 1 => st_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k)

theorem st_k0_t1_succ (𝒱 : Variants) (c : Dev nD) (bd : Option 𝒱.V) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (X_arg1 : BufTy.Contents (Elt F) arg1.view.ty) (X_arg5 : BufTy.Contents (Elt F) arg5.view.ty) (X_arg6 : BufTy.Contents (Elt F) arg6.view.ty) (G_arg15 : BufTy.Contents (Elt F) arg15.view.ty) (init : BitVec 32) (k : Fin k0_t1_loop.trips) :
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init (k.val + 1)
      = ((tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k.val).1 (arg15.view.writes (Elt F) G_arg15 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k.val).2)), (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k.val).1 (arg15.view.writes (Elt F) G_arg15 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k.val).2)) ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k.val).2) := by
  rw [st_k0_t1.eq_2]; unfold st_k0_t1Step; exact dif_pos k.isLt

/-- Before trip 0 the first row is the initial one. -/
theorem st_k0_t1_zero (𝒱 : Variants) (c : Dev nD) (bd : Option 𝒱.V) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (X_arg1 : BufTy.Contents (Elt F) arg1.view.ty) (X_arg5 : BufTy.Contents (Elt F) arg5.view.ty) (X_arg6 : BufTy.Contents (Elt F) arg6.view.ty) (G_arg15 : BufTy.Contents (Elt F) arg15.view.ty) (init : BitVec 32) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init 0).1 = init := rfl

/-- The invariant before trip `k`: the operands as they are, the products and the first row at the state before trip `k`. -/
abbrev inv_k0_t1 (𝒱 : Variants) (c : Dev nD) (bd : Option 𝒱.V) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (X_arg1 : BufTy.Contents (Elt F) arg1.view.ty) (X_arg5 : BufTy.Contents (Elt F) arg5.view.ty) (X_arg6 : BufTy.Contents (Elt F) arg6.view.ty) (G_arg15 : BufTy.Contents (Elt F) arg15.view.ty) (init : BitVec 32) (k : ℕ) (acc : BitVec 32) : sProp 𝕄G :=
  iprop((arg1.view.loc (c : Thread nD τ) ↦[arg1.view.set]{fullShare} X_arg1) ∗ (arg5.view.loc (c : Thread nD τ) ↦[arg5.view.set]{fullShare} X_arg5) ∗ (arg6.view.loc (c : Thread nD τ) ↦[arg6.view.set]{fullShare} X_arg6) ∗ (∃ f, (arg15.view.loc (c : Thread nD τ) ↦[arg15.view.set]{fullShare} f) ∗ ⌜f = arg15.view.writes (Elt F) G_arg15 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k).2⌝) ∗ ⌜acc = (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k).1⌝)

set_option warn.classDefReducibility false in
/-- The loop by its invariant. -/
@[sl_loop] def loopInv_k0_t1 (𝒱 : Variants) (c : Dev nD) (bd : Option 𝒱.V) (E : Set ℕ) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (v79 : Vec F S256x128 .f32) (X_arg1 : BufTy.Contents (Elt F) arg1.view.ty) (X_arg5 : BufTy.Contents (Elt F) arg5.view.ty) (X_arg6 : BufTy.Contents (Elt F) arg6.view.ty) (G_arg15 : BufTy.Contents (Elt F) arg15.view.ty) (init : BitVec 32) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 v79 init where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init
  step k acc := by
    iintro ⟨HR_arg1, HR_arg5, HR_arg6, ⟨%f_arg15, HW_arg15, %h_arg15⟩, %h_acc⟩
    subst h_acc
    iapply (wp_wand_r Idealize.ShloMosaic.frame (wpE (defs₀ (F := F)) 𝒱 (c : Thread nD τ) bd) E)
    isplitl [HR_arg1 HR_arg5 HR_arg6 HW_arg15]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 k).2.2 v79 E (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k).1 f_arg15)
      isplitl [HR_arg1]; · iexact HR_arg1
      isplitl [HR_arg5]; · iexact HR_arg5
      isplitl [HR_arg6]; · iexact HR_arg6
      iexact HW_arg15
    · iintro %yld ⟨%h_res, HR_arg1, HR_arg5, HR_arg6, HW_arg15⟩
      isplitl [HR_arg1]; · iexact HR_arg1
      isplitl [HR_arg5]; · iexact HR_arg5
      isplitl [HR_arg6]; · iexact HR_arg6
      simp only [st_k0_t1_succ]
      isplitl [HW_arg15]
      · iexists _; isplitl [HW_arg15]; · iexact HW_arg15
        ipureintro; rw [h_arg15, ← View.writes_append]
      ipureintro; rw [h_res, h_arg15]

end Cert.KernelIdeal.Gen

end
-- ==== Proof.PrepRun.lean ====
/-
  The first call's body on one block of rows: what its stores leave, run from the blocks it reads.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import proofs.«01_k».proof.Proof.PrepLoop
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_prep` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 6, through which its contents are stated (`View.read_writes_of_cover`: the
    choice does not matter). -/
abbrev VO0_6 : View sig .tc .vmem S256x7168 .fp8e4m3 := (Memref.whole cc0_stg6_0 : Memref sig .tc .vmem S256x7168 .fp8e4m3).view
/-- One staging buffer of output window 7, through which its contents are stated (`View.read_writes_of_cover`: the
    choice does not matter). -/
abbrev VO0_7 : View sig .tc .vmem S2x2048 .f32 := (Memref.whole cc0_stg7_0 : Memref sig .tc .vmem S2x2048 .f32).view
/-- One staging buffer of output window 8, through which its contents are stated (`View.read_writes_of_cover`: the
    choice does not matter). -/
abbrev VO0_8 : View sig .tc .vmem S256x128 .i8 := (Memref.whole cc0_stg8_0 : Memref sig .tc .vmem S256x128 .i8).view
/-- One staging buffer of output window 9, through which its contents are stated (`View.read_writes_of_cover`: the
    choice does not matter). -/
abbrev VO0_9 : View sig .tc .vmem S2x2048 .f32 := (Memref.whole cc0_stg9_0 : Memref sig .tc .vmem S2x2048 .f32).view
/-- One staging buffer of output window 10, through which its contents are stated (`View.read_writes_of_cover`: the
    choice does not matter). -/
abbrev VO0_10 : View sig .tc .vmem S256x128 .fp8e4m3 := (Memref.whole cc0_stg10_0 : Memref sig .tc .vmem S256x128 .fp8e4m3).view
/-- One staging buffer of output window 11, through which its contents are stated (`View.read_writes_of_cover`: the
    choice does not matter). -/
abbrev VO0_11 : View sig .tc .vmem S2x2048 .f32 := (Memref.whole cc0_stg11_0 : Memref sig .tc .vmem S2x2048 .f32).view
/-- One staging buffer of output window 12, through which its contents are stated (`View.read_writes_of_cover`: the
    choice does not matter). -/
abbrev VO0_12 : View sig .tc .vmem S256x128 .f32 := (Memref.whole cc0_stg12_0 : Memref sig .tc .vmem S256x128 .f32).view
/-- One staging buffer of output window 13, through which its contents are stated (`View.read_writes_of_cover`: the
    choice does not matter). -/
abbrev VO0_13 : View sig .tc .vmem S256x128 .f32 := (Memref.whole cc0_stg13_0 : Memref sig .tc .vmem S256x128 .f32).view
/-- Each window's current staging memref at point `t`, spelled as the pipeline passes it (`bodyAt0`), and its wholeness. -/
abbrev ms0_0 (t : Fin cfg0.N) : Memref sig .tc .smem S33 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x7168 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x7168 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S33x128x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S33x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x128 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S256x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f)) ∗ (∃ r, prngReg c r)) := by
  unfold Pipeline.ΦA; rw [scopedRest0_eq]; simp only [scM0_0, owns_whole]; try rfl

/-- Where the block's scales lie in the two rows of 2048: row `⌊i / 8⌋`, from column `256 (i mod 8)`. -/
theorem k0_off4_eq : ∀ i : grid0.Coords, k0_off4 i = ![(i 0).val / 8, 256 * ((i 0).val % 8)] := by decide +kernel
instance closedOff_k0_off4 (i : grid0.Coords) : ClosedOff (k0_off4 i) := ⟨![(i 0).val / 8, 256 * ((i 0).val % 8)], k0_off4_eq i⟩

set_option maxHeartbeats 4000000 in
/-- What the body's stores leave in each output's staging memref, as pieces (last first), with the proof: on whole staging
    memrefs — the inputs' at their contents, the outputs' and the scratch at anything — the body runs to the continuation that
    holds the inputs' as they were and each output's with its pieces written. Of the three outputs that it writes in part
    (the scales), what they held before is named: the rest of them stays. -/
noncomputable def kernelRun0_A (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) :
    Σ' (L6 : List (View.Piece (Elt F) S256x7168 .fp8e4m3)), Σ' (L7 : List (View.Piece (Elt F) S2x2048 .f32)), Σ' (L8 : List (View.Piece (Elt F) S256x128 .i8)), Σ' (L9 : List (View.Piece (Elt F) S2x2048 .f32)), Σ' (L10 : List (View.Piece (Elt F) S256x128 .fp8e4m3)), Σ' (L11 : List (View.Piece (Elt F) S2x2048 .f32)), Σ' (L12 : List (View.Piece (Elt F) S256x128 .f32)), { L13 : List (View.Piece (Elt F) S256x128 .f32) //
      ∀ (E : Set ℕ) (K : PUnit → sProp 𝕄) (y7 y9 y11 : Vec F S2x2048 .f32),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare y7 ∗ (∃ d, owns (c : Thread nD τ) arg9 fullShare d) ∗ owns (c : Thread nD τ) arg10 fullShare y9 ∗ (∃ d, owns (c : Thread nD τ) arg11 fullShare d) ∗ owns (c : Thread nD τ) arg12 fullShare y11 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (arg8.view.loc (c : Thread nD τ) ↦[arg8.view.set]{fullShare} arg8.view.writes (Elt F) (harg8.unread y7) L7) ∗ (∃ f, arg9.view.loc (c : Thread nD τ) ↦[arg9.view.set]{fullShare} arg9.view.writes (Elt F) f L8) ∗ (arg10.view.loc (c : Thread nD τ) ↦[arg10.view.set]{fullShare} arg10.view.writes (Elt F) (harg10.unread y9) L9) ∗ (∃ f, arg11.view.loc (c : Thread nD τ) ↦[arg11.view.set]{fullShare} arg11.view.writes (Elt F) f L10) ∗ (arg12.view.loc (c : Thread nD τ) ↦[arg12.view.set]{fullShare} arg12.view.writes (Elt F) (harg12.unread y11) L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ d, owns (c : Thread nD τ) arg15 fullShare d)) -∗ K ⟨⟩))
          ⊢ wp frame (wpE (defs₀ (F := F)) Variants.none c none) E (cc0_prep i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, fun E K y7 y9 y11 => ?run⟩
  case run =>
    simp only [cc0_prep_eq_skeleton]; unfold cc0_prep_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%f9, %hf9, H9⟩, ⟨%d10, %f10, -, H10⟩, ⟨%f11, %hf11, H11⟩, ⟨%d12, %f12, -, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg10.eq_unread hf9; obtain rfl := harg12.eq_unread hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexact H7
    isplitl [H8]; · iexists _; iexact H8
    isplitl [H9]; · iexact H9
    isplitl [H10]; · iexists _; iexact H10
    isplitl [H11]; · iexact H11
    isplitl [H12]; · iexists _; iexact H12
    isplitl [H13]; · iexists _; iexact H13
    iexists _, _; isplitr; swap; · iexact HS0
    ipureintro; rfl

end Regions

end Cert.KernelIdeal.Gen

end
-- ==== Proof.PrepData.lean ====
/-
  The first call's outputs point by point: what its writes cover, what they read as, and the proof data of its pipeline.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import proofs.«01_k».proof.Proof.PrepRun
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-- The body's writes of output 6 cover its block. -/
theorem cover0_A_6 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) (y : S256x7168.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).1 S256x7168.size (by sl_kernel_rfl) y

/-- What the body's writes of output 6 read as. -/
def out0_A_6 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) : Vec F S256x7168 .fp8e4m3 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).1)

/-- The body writes output 7 at the block's own scales alone. -/
theorem piece0_A_7 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) :
    ∃ w : S1x256.Idx → Elt F .f32, (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.1 = [⟨Rect.unit (s := S2x2048) (k0_off4 i) S1x256.size (k0_off4_inb i), w⟩] := ⟨_, rfl⟩

/-- What the body's writes of output 7 read as. -/
def out0_A_7 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) : Vec F S2x2048 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.1)

/-- The body's writes of output 8 cover its block. -/
theorem cover0_A_8 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.1 S256x128.size (by sl_kernel_rfl) y

/-- What the body's writes of output 8 read as. -/
def out0_A_8 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) : Vec F S256x128 .i8 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.1)

/-- The body writes output 9 at the block's own scales alone. -/
theorem piece0_A_9 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) :
    ∃ w : S1x256.Idx → Elt F .f32, (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.1 = [⟨Rect.unit (s := S2x2048) (k0_off4 i) S1x256.size (k0_off4_inb i), w⟩] := ⟨_, rfl⟩

/-- What the body's writes of output 9 read as. -/
def out0_A_9 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) : Vec F S2x2048 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.1)

/-- The body's writes of output 10 cover its block. -/
theorem cover0_A_10 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.1 S256x128.size (by sl_kernel_rfl) y

/-- What the body's writes of output 10 read as. -/
def out0_A_10 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) : Vec F S256x128 .fp8e4m3 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.1)

/-- The body writes output 11 at the block's own scales alone. -/
theorem piece0_A_11 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) :
    ∃ w : S1x256.Idx → Elt F .f32, (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.1 = [⟨Rect.unit (s := S2x2048) (k0_off4 i) S1x256.size (k0_off4_inb i), w⟩] := ⟨_, rfl⟩

/-- What the body's writes of output 11 read as. -/
def out0_A_11 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) : Vec F S2x2048 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.1)

/-- The body's writes of output 12 cover its block. -/
theorem cover0_A_12 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.1 S256x128.size (by sl_kernel_rfl) y

/-- What the body's writes of output 12 read as. -/
def out0_A_12 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) : Vec F S256x128 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.1)

/-- The body's writes of output 13 cover its block. -/
theorem cover0_A_13 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.2.1 S256x128.size (by sl_kernel_rfl) y

/-- What the body's writes of output 13 read as. -/
def out0_A_13 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) : Vec F S256x128 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.2.1)

/-- What the body writes into the outputs at point `t`, at the point's memrefs and blocks (in window order). -/
def outsAt0 (c : Dev nD) (t : Fin cfg0.N) : Vec F S256x7168 .fp8e4m3 × Vec F S2x2048 .f32 × Vec F S256x128 .i8 × Vec F S2x2048 .f32 × Vec F S256x128 .fp8e4m3 × Vec F S2x2048 .f32 × Vec F S256x128 .f32 × Vec F S256x128 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t))

/-- The block whose rows' scales lie at `y` of the two rows of 2048. -/
def pointOf (y : S2x2048.Idx) : Fin cfg0.N :=
  ⟨8 * (y 0).val + (y 1).val / 256, by
    have h0 : (y 0).val < 2 := (y 0).isLt
    have h1 : (y 1).val < 2048 := (y 1).isLt
    have : cfg0.N = 16 := rfl
    omega⟩

/-- The scales of all blocks, each at its own place: what the three outputs written in part hold after the last point. -/
def scales7 (c : Dev nD) : Vec F S2x2048 .f32 := fun y => (outsAt0 V c (pointOf y)).2.1 y
def scales9 (c : Dev nD) : Vec F S2x2048 .f32 := fun y => (outsAt0 V c (pointOf y)).2.2.2.1 y
def scales11 (c : Dev nD) : Vec F S2x2048 .f32 := fun y => (outsAt0 V c (pointOf y)).2.2.2.2.2.1 y

/-- The proof data of the first call: the arrays as it finds them; after the body at point `t` each input's buffer at its block,
    each output written whole at what the body writes, and the three outputs written in part at the scales of all blocks (of which
    point `t` knows those of the blocks up to `t`: `known0`). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t).1
    | ⟨7, _⟩ => scales7 V c
    | ⟨8, _⟩ => (outsAt0 V c t).2.2.1
    | ⟨9, _⟩ => scales9 V c
    | ⟨10, _⟩ => (outsAt0 V c t).2.2.2.2.1
    | ⟨11, _⟩ => scales11 V c
    | ⟨12, _⟩ => (outsAt0 V c t).2.2.2.2.2.2.1
    | ⟨13, _⟩ => (outsAt0 V c t).2.2.2.2.2.2.2
  Φ _ := Pipeline.ΦA spec0 c
  q _ := fullShare
  owed _ := 0

/-- The arrays are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t).1 := by dsimp only [dat0]
theorem after0_7 (c : Dev nD) (t : Fin cfg0.N) : (dat0 V c).after 7 t = scales7 V c := by dsimp only [dat0]
theorem after0_8 (c : Dev nD) (t : Fin cfg0.N) : (dat0 V c).after 8 t = (outsAt0 V c t).2.2.1 := by dsimp only [dat0]
theorem after0_9 (c : Dev nD) (t : Fin cfg0.N) : (dat0 V c).after 9 t = scales9 V c := by dsimp only [dat0]
theorem after0_10 (c : Dev nD) (t : Fin cfg0.N) : (dat0 V c).after 10 t = (outsAt0 V c t).2.2.2.2.1 := by dsimp only [dat0]
theorem after0_11 (c : Dev nD) (t : Fin cfg0.N) : (dat0 V c).after 11 t = scales11 V c := by dsimp only [dat0]
theorem after0_12 (c : Dev nD) (t : Fin cfg0.N) : (dat0 V c).after 12 t = (outsAt0 V c t).2.2.2.2.2.2.1 := by dsimp only [dat0]
theorem after0_13 (c : Dev nD) (t : Fin cfg0.N) : (dat0 V c).after 13 t = (outsAt0 V c t).2.2.2.2.2.2.2 := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

end Regions

end Cert.KernelIdeal.Gen

end
-- ==== Proof.PrepBody.lean ====
/-
  The first call's body at one point of its grid, over the three outputs that it writes in part: a point's writes add its block's scales to those of the blocks before.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import proofs.«01_k».proof.Proof.PrepData
public import Idealize.ShloMosaic.Lib.Pipeline.RegionsLoop
public import Idealize.ShloMosaic.Lib.Pipeline.DatRel
public import Idealize.ShloMosaic.Lib.WritesUnit
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-- The outputs written in part. -/
def held0 (w : Fin cfg0.W) : Bool :=
  match w with
  | ⟨7, _⟩ => true
  | ⟨9, _⟩ => true
  | ⟨11, _⟩ => true
  | _ => false

/-- What point `t` leaves in an output written in part: the scales of the blocks up to `t`. -/
def known0 (c : Dev nD) (w : Fin cfg0.W) (t : Fin cfg0.N) : ((cfg0.win w).block.Idx → Elt F (cfg0.win w).elt) → Prop :=
  match w with
  | ⟨7, _⟩ => fun X => ∀ y : S2x2048.Idx, (pointOf y).val ≤ t.val → X y = scales7 V c y
  | ⟨9, _⟩ => fun X => ∀ y : S2x2048.Idx, (pointOf y).val ≤ t.val → X y = scales9 V c y
  | ⟨11, _⟩ => fun X => ∀ y : S2x2048.Idx, (pointOf y).val ≤ t.val → X y = scales11 V c y
  | _ => fun _ => True

/-- A buffer of scales that holds those of the blocks before `t`, written at block `t`'s: it holds those of the blocks up to `t`. -/
theorem scales_step (T Y : Vec F S2x2048 .f32) (t : Fin cfg0.N) (m : Memref sig .tc .vmem S2x2048 .f32) (hm : m.IsWhole)
    (m' : Memref sig .tc .vmem S2x2048 .f32) (L : List (View.Piece (Elt F) S2x2048 .f32))
    (hL : ∃ w : S1x256.Idx → Elt F .f32, L = [⟨Rect.unit (s := S2x2048) (k0_off4 (grid0.coords t)) S1x256.size (k0_off4_inb (grid0.coords t)), w⟩])
    (hY : ∀ y, (pointOf y).val < t.val → Y y = T y)
    (hT : ∀ y, pointOf y = t → T y = m'.view.read (Elt F) (m'.view.writes (Elt F) m'.view.junk L) y)
    (y : S2x2048.Idx) (hy : (pointOf y).val ≤ t.val) :
    m.view.read (Elt F) (m.view.writes (Elt F) (hm.unread Y) L) y = T y := by
  obtain ⟨w, rfl⟩ := hL
  have ht : ((grid0.coords t) 0).val = t.val :=
    (by decide +kernel : ∀ t : Fin cfg0.N, ((grid0.coords t) 0).val = t.val) t
  have h0 : (y 0).val < 2 := (y 0).isLt
  have h1 : (y 1).val < 2048 := (y 1).isLt
  rw [View.read_writes_cons_unit _ _ _ _ _ _ (k0_off4_eq (grid0.coords t))]
  by_cases hp : pointOf y = t
  · rw [hT y hp, View.read_writes_cons_unit _ _ _ _ _ _ (k0_off4_eq (grid0.coords t))]
    have hc : ∀ a, ![((grid0.coords t) 0).val / 8, 256 * (((grid0.coords t) 0).val % 8)] a ≤ (y a).val
        ∧ (y a).val < ![((grid0.coords t) 0).val / 8, 256 * (((grid0.coords t) 0).val % 8)] a + S1x256.size a := by
      have hv : 8 * (y 0).val + (y 1).val / 256 = t.val := congrArg Fin.val hp
      rw [ht]
      intro a
      match a with
      | ⟨0, _⟩ => show t.val / 8 ≤ (y 0).val ∧ (y 0).val < t.val / 8 + 1; omega
      | ⟨1, _⟩ => show 256 * (t.val % 8) ≤ (y 1).val ∧ (y 1).val < 256 * (t.val % 8) + 256; omega
    rw [dif_pos hc, dif_pos hc]
  · have hlt : (pointOf y).val < t.val := lt_of_le_of_ne hy fun e => hp (Fin.ext e)
    have hv : 8 * (y 0).val + (y 1).val / 256 < t.val := hlt
    rw [dif_neg, View.writes_nil, hm.read_unread, hY y hlt]
    intro hc
    have a0 := hc 0
    have a1 := hc 1
    rw [ht] at a0 a1
    have a0' : t.val / 8 ≤ (y 0).val ∧ (y 0).val < t.val / 8 + 1 := a0
    have a1' : 256 * (t.val % 8) ≤ (y 1).val ∧ (y 1).val < 256 * (t.val % 8) + 256 := a1
    omega

/-- What the body finds in output 7 at point `t`: the scales of the blocks before `t`. -/
theorem found7 (c : Dev nD) (t : Fin cfg0.N) (Y : Vec F S2x2048 .f32) (hY : ((dat0 V c).toRRel held0 (known0 V c)).Finds 7 t Y)
    (y : S2x2048.Idx) (hy : (pointOf y).val < t.val) : Y y = scales7 V c y := by
  have hf : ∀ t : Fin cfg0.N, (cfg0.win 7).fetch t = false := by decide +kernel
  have hfl : ∀ t : Fin cfg0.N, t.val < 15 → (cfg0.win 7).flush t = false := by decide +kernel
  have hN : t.val < 16 := t.isLt
  rcases (RDat.finds_of_pos _ (hf t) (by omega) Y).mp hY with h | h
  · rw [hfl _ (by show t.val - 1 < 15; omega)] at h; exact absurd h (by decide)
  · exact Dat.toRRel_leaves (dat := dat0 V c) (fgt := held0) (Rl := known0 V c) rfl h y (by show (pointOf y).val ≤ t.val - 1; omega)

/-- What the body leaves in output 7 at point `t`. -/
theorem known7 (c : Dev nD) (t : Fin cfg0.N) (Y : Vec F S2x2048 .f32) (hY : ((dat0 V c).toRRel held0 (known0 V c)).Finds 7 t Y) :
    known0 V c 7 t ((ms0_7 t).view.read (Elt F) ((ms0_7 t).view.writes (Elt F) ((hs0_7 t).unread Y)
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t)).2.1)) :=
  fun y hy => scales_step (scales7 V c) Y t (ms0_7 t) (hs0_7 t) (Memref.whole cc0_stg7_0) _ (piece0_A_7 c _ _ _ _ _ _ _ _ _ _ _ _ _ _ _ _ _ _ _ _ _ _ _ _ _ _ _ _ _ _ _ _ _ _ _ _ _) (found7 V c t Y hY)
    (fun y' hy' => by subst hy'; rfl) y hy

/-- What the body finds in output 9 at point `t`: the scales of the blocks before `t`. -/
theorem found9 (c : Dev nD) (t : Fin cfg0.N) (Y : Vec F S2x2048 .f32) (hY : ((dat0 V c).toRRel held0 (known0 V c)).Finds 9 t Y)
    (y : S2x2048.Idx) (hy : (pointOf y).val < t.val) : Y y = scales9 V c y := by
  have hf : ∀ t : Fin cfg0.N, (cfg0.win 9).fetch t = false := by decide +kernel
  have hfl : ∀ t : Fin cfg0.N, t.val < 15 → (cfg0.win 9).flush t = false := by decide +kernel
  have hN : t.val < 16 := t.isLt
  rcases (RDat.finds_of_pos _ (hf t) (by omega) Y).mp hY with h | h
  · rw [hfl _ (by show t.val - 1 < 15; omega)] at h; exact absurd h (by decide)
  · exact Dat.toRRel_leaves (dat := dat0 V c) (fgt := held0) (Rl := known0 V c) rfl h y (by show (pointOf y).val ≤ t.val - 1; omega)

/-- What the body leaves in output 9 at point `t`. -/
theorem known9 (c : Dev nD) (t : Fin cfg0.N) (Y : Vec F S2x2048 .f32) (hY : ((dat0 V c).toRRel held0 (known0 V c)).Finds 9 t Y) :
    known0 V c 9 t ((ms0_9 t).view.read (Elt F) ((ms0_9 t).view.writes (Elt F) ((hs0_9 t).unread Y)
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t)).2.2.2.1)) :=
  fun y hy => scales_step (scales9 V c) Y t (ms0_9 t) (hs0_9 t) (Memref.whole cc0_stg9_0) _ (piece0_A_9 c _ _ _ _ _ _ _ _ _ _ _ _ _ _ _ _ _ _ _ _ _ _ _ _ _ _ _ _ _ _ _ _ _ _ _ _ _) (found9 V c t Y hY)
    (fun y' hy' => by subst hy'; rfl) y hy

/-- What the body finds in output 11 at point `t`: the scales of the blocks before `t`. -/
theorem found11 (c : Dev nD) (t : Fin cfg0.N) (Y : Vec F S2x2048 .f32) (hY : ((dat0 V c).toRRel held0 (known0 V c)).Finds 11 t Y)
    (y : S2x2048.Idx) (hy : (pointOf y).val < t.val) : Y y = scales11 V c y := by
  have hf : ∀ t : Fin cfg0.N, (cfg0.win 11).fetch t = false := by decide +kernel
  have hfl : ∀ t : Fin cfg0.N, t.val < 15 → (cfg0.win 11).flush t = false := by decide +kernel
  have hN : t.val < 16 := t.isLt
  rcases (RDat.finds_of_pos _ (hf t) (by omega) Y).mp hY with h | h
  · rw [hfl _ (by show t.val - 1 < 15; omega)] at h; exact absurd h (by decide)
  · exact Dat.toRRel_leaves (dat := dat0 V c) (fgt := held0) (Rl := known0 V c) rfl h y (by show (pointOf y).val ≤ t.val - 1; omega)

/-- What the body leaves in output 11 at point `t`. -/
theorem known11 (c : Dev nD) (t : Fin cfg0.N) (Y : Vec F S2x2048 .f32) (hY : ((dat0 V c).toRRel held0 (known0 V c)).Finds 11 t Y) :
    known0 V c 11 t ((ms0_11 t).view.read (Elt F) ((ms0_11 t).view.writes (Elt F) ((hs0_11 t).unread Y)
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t)).2.2.2.2.2.1)) :=
  fun y hy => scales_step (scales11 V c) Y t (ms0_11 t) (hs0_11 t) (Memref.whole cc0_stg11_0) _ (piece0_A_11 c _ _ _ _ _ _ _ _ _ _ _ _ _ _ _ _ _ _ _ _ _ _ _ _ _ _ _ _ _ _ _ _ _ _ _ _ _) (found11 V c t Y hY)
    (fun y' hy' => by subst hy'; rfl) y hy

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ Y, ⌜((dat0 V c).toRRel held0 (known0 V c)).Finds 7 t Y⌝ ∗ owns (c : Thread nD τ) (ms0_7 t) fullShare Y)
    ∗ (∃ d, owns (c : Thread nD τ) (ms0_8 t) fullShare ((dat0 V c).before 8 t d))
    ∗ (∃ Y, ⌜((dat0 V c).toRRel held0 (known0 V c)).Finds 9 t Y⌝ ∗ owns (c : Thread nD τ) (ms0_9 t) fullShare Y)
    ∗ (∃ d, owns (c : Thread nD τ) (ms0_10 t) fullShare ((dat0 V c).before 10 t d))
    ∗ (∃ Y, ⌜((dat0 V c).toRRel held0 (known0 V c)).Finds 11 t Y⌝ ∗ owns (c : Thread nD τ) (ms0_11 t) fullShare Y)
    ∗ (∃ d, owns (c : Thread nD τ) (ms0_12 t) fullShare ((dat0 V c).before 12 t d))
    ∗ (∃ d, owns (c : Thread nD τ) (ms0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ (∃ X, ⌜known0 V c 7 t X⌝ ∗ owns (c : Thread nD τ) (ms0_7 t) fullShare X)
    ∗ owns (c : Thread nD τ) (ms0_8 t) fullShare ((dat0 V c).after 8 t)
    ∗ (∃ X, ⌜known0 V c 9 t X⌝ ∗ owns (c : Thread nD τ) (ms0_9 t) fullShare X)
    ∗ owns (c : Thread nD τ) (ms0_10 t) fullShare ((dat0 V c).after 10 t)
    ∗ (∃ X, ⌜known0 V c 11 t X⌝ ∗ owns (c : Thread nD τ) (ms0_11 t) fullShare X)
    ∗ owns (c : Thread nD τ) (ms0_12 t) fullShare ((dat0 V c).after 12 t)
    ∗ owns (c : Thread nD τ) (ms0_13 t) fullShare ((dat0 V c).after 13 t))

set_option maxHeartbeats 1200000 in
/-- The body at any point: the inputs' memrefs hold their blocks, so the run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_8, after0_10, after0_12, after0_13]
  rw [show (dat0 V c).Φ t.castSucc = Pipeline.ΦA spec0 c from rfl, PhiA0_eq]
  unfold outsAt0
  unfold out0_A_6 out0_A_8 out0_A_10 out0_A_12 out0_A_13; (try dsimp only)
  iintro ⟨⟨⟨HS0, HR1, HR2, HR3, HR4, HR5, HR6, HR7, HR8, HR9, HR10, HR11, HR12, HR13, HR14⟩, Hg⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%d8, H8⟩, ⟨%Y9, %hY9, H9⟩, ⟨%d10, H10⟩, ⟨%Y11, %hY11, H11⟩, ⟨%d12, H12⟩, ⟨%d13, H13⟩⟩
  iapply ((kernelRun0_A c (grid0.coords t) _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t)).2.2.2.2.2.2.2.2 Set.univ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexact H9
  isplitl [H10]; · iexists _; iexact H10
  isplitl [H11]; · iexact H11
  isplitl [H12]; · iexists _; iexact H12
  isplitl [H13]; · iexists _; iexact H13
  isplitl [HS0]; · iexact HS0
  iintro ⟨H0, H1, H2, H3, H4, H5, ⟨%e6, H6⟩, H7, ⟨%e8, H8⟩, H9, ⟨%e10, H10⟩, H11, ⟨%e12, H12⟩, ⟨%e13, H13⟩, HS0⟩
  isplitl [HS0 HR1 HR2 HR3 HR4 HR5 HR6 HR7 HR8 HR9 HR10 HR11 HR12 HR13 HR14 Hg]
  · isplitl [HS0 HR1 HR2 HR3 HR4 HR5 HR6 HR7 HR8 HR9 HR10 HR11 HR12 HR13 HR14]
    · isplitl [HS0]
      · iexact HS0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      iexact HR14
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _ _ _ _ _ _ _ _ _)
  isplitl [H7]
  · iexists _; isplitr
    swap
    · unfold owns; iexists _; isplitr; swap; · iexact H7
      ipureintro; rfl
    ipureintro
    exact known7 V c t _ hY7
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _ _ _ _)
  isplitl [H9]
  · iexists _; isplitr
    swap
    · unfold owns; iexists _; isplitr; swap; · iexact H9
      ipureintro; rfl
    ipureintro
    exact known9 V c t _ hY9
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _)
  isplitl [H11]
  · iexists _; isplitr
    swap
    · unfold owns; iexists _; isplitr; swap; · iexact H11
      ipureintro; rfl
    ipureintro
    exact known11 V c t _ hY11
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _)
  unfold owns; iexists _; isplitr
  swap; · iexact H13
  ipureintro; exact View.read_writes_of_cover _ _ _ _ _ (cover0_A_13 c _ _ _ _ _ _ _ _ _ _ _ _ _ _ _ _ _ _ _ _ _ _ _ _ _ _ _ _ _ _ _ _ _ _ _ _ _)

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : Pipeline.BodyObligationRel (dat0 (F := F) V c) (defs₀ (F := F)) Variants.none () Set.univ held0 (known0 V c) := fun t => by
  rw [bigSep_W0, bigSep_W0, defs₀_row0]
  exact triple_restated (sound_body0 V c t) rfl .rfl fun _ => .rfl

end Regions

end Cert.KernelIdeal.Gen

end
-- ==== Proof.MainBody.lean ====
/-
  The second call's body at one point of its grid, and what its output's window holds after it.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops

public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_main` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 8, through which its contents are stated (`View.read_writes_of_cover`: the
    choice does not matter). -/
abbrev VO1_8 : View sig .tc .vmem S4096x512 .bf16 := (Memref.whole cc1_stg8_0 : Memref sig .tc .vmem S4096x512 .bf16).view
/-- Each window's current staging memref at point `t`, spelled as the pipeline passes it (`bodyAt1`), and its wholeness. -/
abbrev ms1_0 (t : Fin cfg1.N) : Memref sig .tc .vmem S4096x7168 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S7168x512 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x512 .fp8e4m3 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S4096x512 .bf16 := win1_8.stage (cfg1.slots t 8)
abbrev hs1_8 (t : Fin cfg1.N) : (ms1_8 t).IsWhole := hstage1_8 ((cfg1.slots t 8).cast nbuf1_8)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S4096x7168 .fp8e4m3) (harg1 : arg1.IsWhole) (arg2 : Memref sig .tc .vmem S4096x128 .fp8e4m3) (harg2 : arg2.IsWhole) (arg3 : Memref sig .tc .vmem S4096x128 .f32) (harg3 : arg3.IsWhole) (arg4 : Memref sig .tc .vmem S4096x128 .f32) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S128x512 .fp8e4m3) (harg7 : arg7.IsWhole) (arg8 : Memref sig .tc .vmem S1x512 .f32) (harg8 : arg8.IsWhole) (arg9 : Memref sig .tc .vmem S4096x512 .bf16) (harg9 : arg9.IsWhole)
    (x0 : Vec F S4096x7168 .fp8e4m3) (x1 : Vec F S4096x128 .fp8e4m3) (x2 : Vec F S4096x128 .f32) (x3 : Vec F S4096x128 .f32) (x4 : Vec F S7168x512 .fp8e4m3) (x5 : Vec F S1x512 .f32) (x6 : Vec F S128x512 .fp8e4m3) (x7 : Vec F S1x512 .f32) :
    { L8 : List (View.Piece (Elt F) S4096x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc1_main i arg1 harg1 arg2 harg2 arg3 harg3 arg4 harg4 arg5 harg5 arg6 harg6 arg7 harg7 arg8 harg8 arg9 harg9) K } := by
  refine ⟨?_, fun E K => ?run⟩
  case run =>
    simp only [cc1_main_eq_skeleton]; unfold cc1_main_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

/-- The run's pieces for output 8 tile its block (16 stores of `S1024x128`, checked by the kernel's evaluation: Lib/Ring.lean `Piece.tiledL`, linear in the pieces, through a loop's `@[irreducible]` trip theorem too), so they cover it. -/
theorem cover1_A_8 (c : Dev nD) (i : grid1.Coords) (arg1 : Memref sig .tc .vmem S4096x7168 .fp8e4m3) (harg1 : arg1.IsWhole) (arg2 : Memref sig .tc .vmem S4096x128 .fp8e4m3) (harg2 : arg2.IsWhole) (arg3 : Memref sig .tc .vmem S4096x128 .f32) (harg3 : arg3.IsWhole) (arg4 : Memref sig .tc .vmem S4096x128 .f32) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S128x512 .fp8e4m3) (harg7 : arg7.IsWhole) (arg8 : Memref sig .tc .vmem S1x512 .f32) (harg8 : arg8.IsWhole) (arg9 : Memref sig .tc .vmem S4096x512 .bf16) (harg9 : arg9.IsWhole)
    (x0 : Vec F S4096x7168 .fp8e4m3) (x1 : Vec F S4096x128 .fp8e4m3) (x2 : Vec F S4096x128 .f32) (x3 : Vec F S4096x128 .f32) (x4 : Vec F S7168x512 .fp8e4m3) (x5 : Vec F S1x512 .f32) (x6 : Vec F S128x512 .fp8e4m3) (x7 : Vec F S1x512 .f32) (y : S4096x512.Idx) :
    ∃ pc ∈ (kernelRun1_A c i arg1 harg1 arg2 harg2 arg3 harg3 arg4 harg4 arg5 harg5 arg6 harg6 arg7 harg7 arg8 harg8 arg9 harg9 x0 x1 x2 x3 x4 x5 x6 x7).1, y ∈ pc.1.set :=
  View.cover_of_tiledL (kernelRun1_A c i arg1 harg1 arg2 harg2 arg3 harg3 arg4 harg4 arg5 harg5 arg6 harg6 arg7 harg7 arg8 harg8 arg9 harg9 x0 x1 x2 x3 x4 x5 x6 x7).1 S1024x128.size (by sl_kernel_rfl) y

/-- What the run leaves in output 8's staging buffer: its pieces read back over junk. -/
def out1_A_8 (c : Dev nD) (i : grid1.Coords) (arg1 : Memref sig .tc .vmem S4096x7168 .fp8e4m3) (harg1 : arg1.IsWhole) (arg2 : Memref sig .tc .vmem S4096x128 .fp8e4m3) (harg2 : arg2.IsWhole) (arg3 : Memref sig .tc .vmem S4096x128 .f32) (harg3 : arg3.IsWhole) (arg4 : Memref sig .tc .vmem S4096x128 .f32) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S128x512 .fp8e4m3) (harg7 : arg7.IsWhole) (arg8 : Memref sig .tc .vmem S1x512 .f32) (harg8 : arg8.IsWhole) (arg9 : Memref sig .tc .vmem S4096x512 .bf16) (harg9 : arg9.IsWhole)
    (x0 : Vec F S4096x7168 .fp8e4m3) (x1 : Vec F S4096x128 .fp8e4m3) (x2 : Vec F S4096x128 .f32) (x3 : Vec F S4096x128 .f32) (x4 : Vec F S7168x512 .fp8e4m3) (x5 : Vec F S1x512 .f32) (x6 : Vec F S128x512 .fp8e4m3) (x7 : Vec F S1x512 .f32) : Vec F S4096x512 .bf16 :=
  VO1_8.read (Elt F) (VO1_8.writes (Elt F) VO1_8.junk (kernelRun1_A c i arg1 harg1 arg2 harg2 arg3 harg3 arg4 harg4 arg5 harg5 arg6 harg6 arg7 harg7 arg8 harg8 arg9 harg9 x0 x1 x2 x3 x4 x5 x6 x7).1)

/-! ## What the outputs hold after each point -/

/-- What the outputs' staging buffers hold after the body at point `t`: the run's contents at
    the point's memrefs and input blocks. -/
def outsAt1 (c : Dev nD) (t : Fin cfg1.N) : Vec F S4096x512 .bf16 :=
  out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) (iblk1 V c 7 t)

/-! ## The pipeline's proof data -/

/-- The proof data of pipeline 1 on core `c`: the arrays as the region finds them (`V`); after the body at
    point `t` each input's buffer at its block and the outputs' at `outsAt1`; the invariant the class's
    (`ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 800000 in
/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  unfold outsAt1
  unfold out1_A_8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun1_A c (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover1_A_8 c _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (`triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Run.lean ====
/-
  The run of the two calls: what every buffer holds at each boundary, and at the end.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import proofs.«01_k».proof.Proof.PrepBody
public import proofs.«01_k».proof.Proof.MainBody
public import Idealize.ShloMosaic.Lib.Pipeline.ArrRel
public import Idealize.ShloMosaic.Lib.Pipeline.DatRel
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the first call leaves -/

section Exit
variable (V : (c : Dev nD) → (b : Ref sig .tc) → Buf (Elt F) ((c : Thread nD τ).loc b))

/-- The last point of the first call's grid. -/
abbrev lastPoint : Fin cfg0.N := ⟨15, by decide⟩

/-- An output written in part is flushed at the last point only. -/
theorem flush_last7 : ∀ t : Fin cfg0.N, (cfg0.win 7).flush t = true → t = lastPoint := by decide +kernel
theorem flush_last9 : ∀ t : Fin cfg0.N, (cfg0.win 9).flush t = true → t = lastPoint := by decide +kernel
theorem flush_last11 : ∀ t : Fin cfg0.N, (cfg0.win 11).flush t = true → t = lastPoint := by decide +kernel

/-- What is known of such an output at the last point names all of it. -/
theorem known_last7 (c : Dev nD) (X) (h : known0 V c 7 lastPoint X) : X = scales7 V c :=
  funext fun y => h y (Nat.le_of_lt_succ (pointOf y).isLt)
theorem known_last9 (c : Dev nD) (X) (h : known0 V c 9 lastPoint X) : X = scales9 V c :=
  funext fun y => h y (Nat.le_of_lt_succ (pointOf y).isLt)
theorem known_last11 (c : Dev nD) (X) (h : known0 V c 11 lastPoint X) : X = scales11 V c :=
  funext fun y => h y (Nat.le_of_lt_succ (pointOf y).isLt)

/-- The first call's relational data. -/
abbrev rdat0 (c : Dev nD) : RDat τ (Elt F) Unit ℕ (UR sig nD τ) ℕ cfg0 c := (dat0 V c).toRRel held0 (known0 V c)

/-- An array of an output written in part holds what the exact data name. -/
theorem left_held (c : Dev nD) (w : Fin cfg0.W) (hw : held0 w = true)
    (hflush : ∀ t : Fin cfg0.N, (cfg0.win w).flush t = true → t = lastPoint)
    (hknown : ∀ X, known0 V c w lastPoint X → X = (dat0 V c).after w lastPoint) (G)
    (hG : (rdat0 V c).ArrAt w cfg0.N G) : G = (dat0 V c).arrAt w cfg0.N := by
  obtain ⟨X, hX, hA⟩ := hG.exists_exact
  refine hA (dat0 V c).after fun u hu hf => ?_
  have h := (dat0 V c).toRRel_leaves hw (hX u hu hf)
  have e := hflush u hf
  rw [e] at h ⊢
  exact (hknown _ h).symm

/-- Each array of the first call ends at what the exact data name. -/
theorem left0 (c : Dev nD) (w : Fin cfg0.W) (G) (hG : (rdat0 V c).ArrAt w cfg0.N G) : G = (dat0 V c).arrAt w cfg0.N := by
  by_cases h : held0 w = false
  · exact ((dat0 V c).toR_arrAt_iff w _ G).mp (((dat0 V c).toR.override_arrAt (by simp only [h]) _ G).mp hG)
  · have hw : w = 7 ∨ w = 9 ∨ w = 11 :=
      (by decide +kernel : ∀ w : Fin cfg0.W, ¬ held0 w = false → w = 7 ∨ w = 9 ∨ w = 11) w h
    rcases hw with rfl | rfl | rfl
    · exact left_held V c 7 rfl flush_last7 (fun X hX => (known_last7 V c X hX).trans (after0_7 V c _).symm) G hG
    · exact left_held V c 9 rfl flush_last9 (fun X hX => (known_last9 V c X hX).trans (after0_9 V c _).symm) G hG
    · exact left_held V c 11 rfl flush_last11 (fun X hX => (known_last11 V c X hX).trans (after0_11 V c _).symm) G hG

/-- So the arrays of the first call after its last write-back are as the exact data name them. -/
theorem arrays_left0 (c : Dev nD) :
    ((rdat0 V c).arraysAt cfg0.N : sProp 𝕄) ⊢ (dat0 V c).arrays ((dat0 V c).arrAt · cfg0.N) := by
  unfold RDat.arraysAt Dat.arrays
  refine BI.bigSep_mono fun w _ => ?_
  show iprop(∃ G, ⌜(rdat0 V c).ArrAt w cfg0.N G⌝ ∗ (cfg0.win w).arr.view.loc (c.tc : Thread nD τ) ↦[(cfg0.win w).arr.view.set]{(dat0 V c).share w} G)
      ⊢ ((cfg0.win w).arr.view.loc (c.tc : Thread nD τ) ↦[(cfg0.win w).arr.view.set]{(dat0 V c).share w} (dat0 V c).arrAt w cfg0.N : sProp 𝕄)
  iintro ⟨%G, %hG, H⟩
  rw [left0 V c w G hG]; iexact H

end Exit

/-! # THE RUN: @main's segments from the launch to the return (`θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3, main_v4]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (`withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (`withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- The same data as the run takes them: the first call's outputs written in part held to what is known of them. -/
def rdats : (p : Fin 2) → (c : Dev nD) → RDat τ (Elt F) Unit ℕ (UR sig nD τ) ℕ (Pipeline.pin (pcfgs (F := F)) adm p) c
  | ⟨0, _⟩ => fun c => rdat0 (V1 m ρ) c
  | ⟨1, _⟩ => fun c => (dat1 (V3 m ρ) c).toR
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).toRRel
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.RDat.arrays_of_unscopedBufs (p := 0) (pcfgs (F := F)) adm (rdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha0, HO, HY, Hrest⟩
    ihave Ha := (show ((rdats m ρ 0 c).arraysAt (Pipeline.pin (pcfgs (F := F)) adm 0).N : sProp 𝕄)
        ⊢ (pdats m ρ 0 c).arrays ((pdats m ρ 0 c).arrAt · cfg0.N) from arrays_left0 (V1 m ρ) c) $$ Ha0
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose.toR
  hwaits := Pipeline.RDat.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.RDat.arrays_of_unscopedBufs (p := 1) (pcfgs (F := F)) adm (rdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha0, HO, HY, Hrest⟩
    ihave Ha := (show ((rdats m ρ 1 c).arraysAt (Pipeline.pin (pcfgs (F := F)) adm 1).N : sProp 𝕄)
        ⊢ (pdats m ρ 1 c).arrays ((pdats m ρ 1 c).arrAt · cfg1.N) from Entails.of_eq ((dat1 (V3 m ρ) c).toR_arraysAt_eq cfg1.N)) $$ Ha0
    imodintro
    isplitl [Ha Hrest HY]
    · isplitl [Ha Hrest]
      · iapply hjoin; isplitl [Ha] <;> iassumption
      iexact HY
    unfold Pipeline.RDat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.RDat.Seg (pcfgs (F := F)) adm (rdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.RDat.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W4_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h => h.1) (frame m ρ)

end Cert.KernelIdeal.Gen

end
-- ==== Proof.KernelRun.lean ====
module

public import proofs.«01_k».proof.Proof.Run

/-!
  What the run of the two calls leaves in the seven results: the arrays of the two calls.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result is what the second call leaves. -/
theorem W4_main_v5 (c : Dev nD) : W4 m ρ c (Proc.devRef .tc main_v5) = (dat1 (V3 m ρ) c).arrAt 8 cfg1.N := W4_arr m ρ c 8

theorem W4_main_v2_0 (c : Dev nD) : W4 m ρ c (Proc.devRef .tc main_v2_0) = (dat0 (V1 m ρ) c).arrAt 6 cfg0.N :=
  (W4_of m ρ c main_v2_0 (by decide +kernel)).trans ((W3_of m ρ c main_v2_0 (by decide +kernel)).trans (W2_arr m ρ c 6))
theorem W4_main_v2_1 (c : Dev nD) : W4 m ρ c (Proc.devRef .tc main_v2_1) = (dat0 (V1 m ρ) c).arrAt 7 cfg0.N :=
  (W4_of m ρ c main_v2_1 (by decide +kernel)).trans ((W3_of m ρ c main_v2_1 (by decide +kernel)).trans (W2_arr m ρ c 7))
theorem W4_main_v2_2 (c : Dev nD) : W4 m ρ c (Proc.devRef .tc main_v2_2) = (dat0 (V1 m ρ) c).arrAt 8 cfg0.N :=
  (W4_of m ρ c main_v2_2 (by decide +kernel)).trans ((W3_of m ρ c main_v2_2 (by decide +kernel)).trans (W2_arr m ρ c 8))
theorem W4_main_v2_3 (c : Dev nD) : W4 m ρ c (Proc.devRef .tc main_v2_3) = (dat0 (V1 m ρ) c).arrAt 9 cfg0.N :=
  (W4_of m ρ c main_v2_3 (by decide +kernel)).trans ((W3_of m ρ c main_v2_3 (by decide +kernel)).trans (W2_arr m ρ c 9))
theorem W4_main_v2_4 (c : Dev nD) : W4 m ρ c (Proc.devRef .tc main_v2_4) = (dat0 (V1 m ρ) c).arrAt 10 cfg0.N :=
  (W4_of m ρ c main_v2_4 (by decide +kernel)).trans ((W3_of m ρ c main_v2_4 (by decide +kernel)).trans (W2_arr m ρ c 10))
theorem W4_main_v2_5 (c : Dev nD) : W4 m ρ c (Proc.devRef .tc main_v2_5) = (dat0 (V1 m ρ) c).arrAt 11 cfg0.N :=
  (W4_of m ρ c main_v2_5 (by decide +kernel)).trans ((W3_of m ρ c main_v2_5 (by decide +kernel)).trans (W2_arr m ρ c 11))

set_option backward.isDefEq.respectTransparency.types false in
/-- Every run ends, the results at the arrays the two calls leave and the arguments unchanged. -/
theorem run_ends : θ_run defs (onTc (τ := τ) (main (F := F))) ⟨m, fun _ => 0, ρ⟩ (fun r => ∀ c : Dev nD,
      r.2.mem ((c.tc : Thread nD τ).loc main_v5) = (dat1 (V3 m ρ) c).arrAt 8 cfg1.N
      ∧ r.2.mem ((c.tc : Thread nD τ).loc main_v2_0) = (dat0 (V1 m ρ) c).arrAt 6 cfg0.N
      ∧ r.2.mem ((c.tc : Thread nD τ).loc main_v2_1) = (dat0 (V1 m ρ) c).arrAt 7 cfg0.N
      ∧ r.2.mem ((c.tc : Thread nD τ).loc main_v2_2) = (dat0 (V1 m ρ) c).arrAt 8 cfg0.N
      ∧ r.2.mem ((c.tc : Thread nD τ).loc main_v2_3) = (dat0 (V1 m ρ) c).arrAt 9 cfg0.N
      ∧ r.2.mem ((c.tc : Thread nD τ).loc main_v2_4) = (dat0 (V1 m ρ) c).arrAt 10 cfg0.N
      ∧ r.2.mem ((c.tc : Thread nD τ).loc main_v2_5) = (dat0 (V1 m ρ) c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v5 (by decide))).trans (W4_main_v5 m ρ c),
       (h c _ (mem_uc main_v2_0 (by decide))).trans (W4_main_v2_0 m ρ c),
       (h c _ (mem_uc main_v2_1 (by decide))).trans (W4_main_v2_1 m ρ c),
       (h c _ (mem_uc main_v2_2 (by decide))).trans (W4_main_v2_2 m ρ c),
       (h c _ (mem_uc main_v2_3 (by decide))).trans (W4_main_v2_3 m ρ c),
       (h c _ (mem_uc main_v2_4 (by decide))).trans (W4_main_v2_4 m ρ c),
       (h c _ (mem_uc main_v2_5 (by decide))).trans (W4_main_v2_5 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Gen

end
-- ==== Proof.Spec.lean ====
module

public import Idealize.ShloMosaic.Lib.Pipeline.ValueKit

/-!
  The layer with its low-rank adapters at one row, over the extended reals: the row quantiser, the projection, its int8 code,
  the tenant's product, and the two products of the result.
-/

@[expose] public section

noncomputable section

open Idealize.ShloMosaic

namespace Cert.Proof

/-- The largest magnitude of a row. -/
def amax {n : ℕ} (v : Fin n → EReal) : EReal :=
  Finset.univ.fold max (Ideal.ofBits .f32 4286578688#32) (fun x => FloatOps.absf (F := Ideal) (φ := .f32) (v x))

/-- What a row's scale has to exceed: its largest magnitude over 448 (the reciprocal rounded to f32). -/
def need {n : ℕ} (v : Fin n → EReal) : EReal := amax v * Ideal.ofBits .f32 991054117#32

/-- The least power of two above `q` among 2^-125 … 2^120; 1 where `q` lies below 2^-126. -/
def scale (q : EReal) : EReal :=
  if q < Ideal.ofBits .f32 8388608#32 then 1
  else Finset.univ.fold min (Ideal.ofBits .f32 2139095040#32) (fun x : Fin 246 =>
    if q < FloatOps.exp2 (F := Ideal) (φ := .f32) (FloatOps.sitofp (F := Ideal) .f32 (IntOp.subi (BitVec.ofNat 32 ↑x) 125#32))
    then FloatOps.exp2 (F := Ideal) (φ := .f32) (FloatOps.sitofp (F := Ideal) .f32 (IntOp.subi (BitVec.ofNat 32 ↑x) 125#32))
    else Ideal.ofBits .f32 2071986176#32)

/-- The scale of a row. -/
def rowScale {n : ℕ} (v : Fin n → EReal) : EReal := scale (need v)

/-- The codes of a row: the row over its scale, held within ±448. -/
def codes {n : ℕ} (v : Fin n → EReal) (d : Fin n) : EReal :=
  min (Ideal.ofBits .f32 1138753536#32) (max (Ideal.ofBits .f32 3286237184#32)
    (v d * Ideal.div (Ideal.ofBits .f32 1065353216#32) (rowScale v)))

/-- The projection of a row of codes `a` with scale `s` on the columns `V` with scales `w`. -/
def proj {n : ℕ} (a : Fin n → EReal) (s : EReal) (V : Fin 128 → Fin n → EReal) (w : Fin 128 → EReal) (r : Fin 128) : EReal :=
  (∑ x, a x * V r x) * s * w r

/-- The int8 scale of a row: its largest magnitude over 127, 1 for a row of zeros. -/
def zScale (z : Fin 128 → EReal) : EReal :=
  if amax z = 0 then 1 else Ideal.div (amax z) (Ideal.ofBits .f32 1123942400#32)

/-- The row over its int8 scale, rounded to the nearest integer and held within ±127. -/
def zq (z : Fin 128 → EReal) (r : Fin 128) : EReal :=
  min (Ideal.ofBits .f32 1123942400#32) (max (Ideal.ofBits .f32 3271426048#32)
    (Ideal.liftRound Ideal.roundHalfEven (Ideal.div (z r) (zScale z))))

/-- The int8 code. -/
def zCode (z : Fin 128 → EReal) (r : Fin 128) : BitVec 8 := FloatOps.fptosi (F := Ideal) (φ := .f32) 8 (zq z r)

/-- The first row of tenant `n`: the sizes of the tenants before it, added up (as 32-bit words). -/
def start (g : Fin 33 → BitVec 32) : ℕ → BitVec 32
  | 0 => 0#32
  | n + 1 => start g n + (if h : n < 33 then g ⟨n, h⟩ else 0#32)

/-- Tenant `n` holds row `i`: from its first row to the next tenant's. -/
def held (g : Fin 33 → BitVec 32) (n : ℕ) (i : BitVec 32) : Prop :=
  (start g n).sle i = true ∧ i.slt (start g (n + 1)) = true

instance (g : Fin 33 → BitVec 32) (n : ℕ) (i : BitVec 32) : Decidable (held g n i) := inferInstanceAs (Decidable (_ ∧ _))

/-- The value of the last of the first `n` tenants that hold row `i`; 0 if none does. -/
def lastHeld (g : Fin 33 → BitVec 32) (i : BitVec 32) (val : Fin 33 → EReal) : ℕ → EReal
  | 0 => 0
  | n + 1 => if h : n < 33 then (if held g n i then val ⟨n, h⟩ else lastHeld g i val n) else lastHeld g i val n

/-- A tenant's product with a row's int8 codes: `S` its matrix, `s` the row's scale, `w` the column's. -/
def tenantAt (z : Fin 128 → EReal) (S : Fin 128 → BitVec 8) (w : EReal) : EReal :=
  (∑ x, FloatOps.sitofp (F := Ideal) .bf16 (zCode z x) * FloatOps.sitofp (F := Ideal) .bf16 (S x)) * zScale z * w

end Cert.Proof

end
-- ==== Proof.Scale.lean ====
module

public import proofs.«01_k».proof.Proof.Spec
public import Mathlib.Data.BitVec

/-!
  The scale by counting powers: the number of powers of two up to a value gives, as exponent bits, the least power above it.
-/

@[expose] public section

noncomputable section

open Idealize.ShloMosaic

namespace Cert.Proof

/-- The float whose exponent field is `k`. -/
theorem ofBits_exp (k : ℕ) (h1 : 1 ≤ k) (h2 : k ≤ 254) :
    Ideal.ofBits .f32 (BitVec.ofNat 32 k <<< 23) = (((2 : ℝ) ^ ((k : ℤ) - 127) : ℝ) : EReal) := by
  have e1 : ((BitVec.ofNat 32 k <<< 23).extractLsb' (8 + 23) 1 == 1#1) = false := by
    have : ∀ k : Fin 255, ((BitVec.ofNat 32 k.val <<< 23).extractLsb' (8 + 23) 1 == 1#1) = false := by decide +kernel
    exact this ⟨k, by omega⟩
  have e2 : ((BitVec.ofNat 32 k <<< 23).extractLsb' 23 8).toNat = k := by
    have : ∀ k : Fin 255, ((BitVec.ofNat 32 k.val <<< 23).extractLsb' 23 8).toNat = k.val := by decide +kernel
    exact this ⟨k, by omega⟩
  have e3 : ((BitVec.ofNat 32 k <<< 23).extractLsb' 0 23).toNat = 0 := by
    have : ∀ k : Fin 255, ((BitVec.ofNat 32 k.val <<< 23).extractLsb' 0 23).toNat = 0 := by decide +kernel
    exact this ⟨k, by omega⟩
  have e0 : ∀ b : BitVec 32, Ideal.ofBits .f32 b = Ideal.ieee 8 23 b := fun _ => rfl
  rw [e0]
  generalize BitVec.ofNat 32 k <<< 23 = b at e1 e2 e3 ⊢
  unfold Ideal.ieee
  simp only [e1, e2, e3]
  rw [if_neg (by omega), if_neg (by omega)]
  congr 1
  have : ((k : ℤ) - 127) = ((k : ℤ) - (2 ^ (8 - 1) - 1) - (23 : ℕ)) + 23 := by norm_num
  rw [this, zpow_add₀ (by norm_num)]
  simp
  ring

/-- The power with exponent field `k`. -/
def pw (k : ℕ) : EReal := (((2 : ℝ) ^ ((k : ℤ) - 127) : ℝ) : EReal)

theorem pw_lt {a b : ℕ} : pw a < pw b ↔ a < b := by
  unfold pw
  rw [EReal.coe_lt_coe_iff, zpow_lt_zpow_iff_right₀ (by norm_num)]
  omega

theorem pw_le {a b : ℕ} : pw a ≤ pw b ↔ a ≤ b := by
  rw [← not_lt, pw_lt, not_lt]

theorem exp2_at (x : Fin 246) : FloatOps.exp2 (F := Ideal) (φ := .f32)
    (FloatOps.sitofp (F := Ideal) .f32 (IntOp.subi (BitVec.ofNat 32 ↑x) 125#32)) = pw (x.val + 2) := by
  have e : (IntOp.subi (BitVec.ofNat 32 ↑x) 125#32).toInt = (x.val : ℤ) - 125 := by
    have : ∀ x : Fin 246, (BitVec.ofNat 32 x.val - 125#32).toInt = (x.val : ℤ) - 125 := by decide +kernel
    exact this x
  show Ideal.exp2 ((((IntOp.subi (BitVec.ofNat 32 ↑x) 125#32).toInt : ℝ)) : EReal) = _
  rw [e]
  show ((Real.rpow 2 _ : ℝ) : EReal) = _
  unfold pw
  congr 1
  have : ((x.val + 2 : ℕ) : ℤ) - 127 = (x.val : ℤ) - 125 := by push_cast; ring
  rw [this]
  exact Real.rpow_intCast 2 _

theorem bits_at (x : Fin 246) :
    Ideal.ofBits .f32 (IntOp.shli .vector (IntOp.addi (BitVec.ofNat 32 ↑x) 1#32) 23#32) = pw (x.val + 1) := by
  have : IntOp.shli .vector (IntOp.addi (BitVec.ofNat 32 ↑x) 1#32) 23#32 = BitVec.ofNat 32 (x.val + 1) <<< 23 := by
    have : ∀ x : Fin 246, IntOp.shli .vector (IntOp.addi (BitVec.ofNat 32 x.val) 1#32) 23#32 = BitVec.ofNat 32 (x.val + 1) <<< 23 := by
      decide +kernel
    exact this x
  rw [this, ofBits_exp _ (by omega) (by omega)]
  rfl

/-- The powers up to `q` are the first `n`. -/
theorem seg (q : EReal) : ∃ n ≤ 246, ∀ x < 246, (pw (x + 1) ≤ q ↔ x < n) := by
  classical
  have hex : ∃ n, n = 246 ∨ q < pw (n + 1) := ⟨246, .inl rfl⟩
  refine ⟨Nat.find hex, Nat.find_min' hex (.inl rfl), fun x hx => ⟨fun h => ?_, fun h => ?_⟩⟩
  · by_contra hn
    rcases Nat.find_spec hex with h' | h'
    · omega
    · exact absurd (lt_of_lt_of_le h' ((pw_le.mpr (by omega)).trans h)) (lt_irrefl _)
  · have := Nat.find_min hex h
    push Not at this
    exact this.2

/-- The count of the powers up to `q`. -/
def cnt (q : EReal) : BitVec 32 :=
  Finset.fold IntOp.addi 0#32 (fun x : Fin 246 =>
    if Ideal.ofBits .f32 (IntOp.shli .vector (IntOp.addi (BitVec.ofNat 32 ↑x) 1#32) 23#32) ≤ q then 1#32 else 0#32) Finset.univ

theorem cnt_eq (q : EReal) (n : ℕ) (hn : n ≤ 246) (h : ∀ x < 246, (pw (x + 1) ≤ q ↔ x < n)) : cnt q = BitVec.ofNat 32 n := by
  have h1 : cnt q = ∑ x : Fin 246, (if x.val < n then 1#32 else 0#32) := by
    rw [Finset.sum_eq_fold]
    unfold cnt
    have : (fun x : Fin 246 => if Ideal.ofBits .f32 (IntOp.shli .vector (IntOp.addi (BitVec.ofNat 32 ↑x) 1#32) 23#32) ≤ q then 1#32 else 0#32)
        = fun x : Fin 246 => if x.val < n then 1#32 else 0#32 := by
      funext x
      rw [bits_at]
      simp only [h x.val x.isLt]
    rw [this]
    rfl
  rw [h1]
  have h2 := Finset.sum_boole (R := BitVec 32) (fun x : Fin 246 => x.val < n) Finset.univ
  refine (h2.trans ?_)
  rw [Fin.card_filter_val_lt]
  rw [min_eq_right hn]
  rfl

theorem c126 : Ideal.ofBits .f32 8388608#32 = pw 1 := ofBits_exp 1 (by omega) (by omega)
theorem c120 : Ideal.ofBits .f32 2071986176#32 = pw 247 := ofBits_exp 247 (by omega) (by omega)
theorem ctop : Ideal.ofBits .f32 2139095040#32 = ⊤ := by simp [Ideal.ofBits, Ideal.ieee]
theorem c1 : Ideal.ofBits .f32 1065353216#32 = pw 127 := ofBits_exp 127 (by omega) (by omega)
theorem pw127 : pw 127 = 1 := by simp [pw]

/-- The scale, by the number of powers up to `q`. -/
theorem scale_eq (q : EReal) (n : ℕ) (hn : n ≤ 246) (h : ∀ x < 246, (pw (x + 1) ≤ q ↔ x < n)) :
    scale q = if n = 0 then pw 127 else pw (n + 1) := by
  unfold scale
  rw [c126, c120, ctop, pw127]
  simp only [exp2_at]
  have h0 : q < pw 1 ↔ n = 0 := by
    have := h 0 (by omega)
    rw [← not_le, this]; omega
  by_cases hz : n = 0
  · rw [if_pos (h0.mpr hz), if_pos hz]
  · rw [if_neg (fun e => hz (h0.mp e)), if_neg hz]
    apply le_antisymm
    · rw [Finset.fold_min_le]
      right
      refine ⟨⟨n - 1, by omega⟩, Finset.mem_univ _, ?_⟩
      have e : n - 1 + 2 = n + 1 := by omega
      simp only [e]
      split_ifs with hq
      · exact le_rfl
      · have hn' : n = 246 := by
          by_contra hne
          exact hq (not_le.mp fun hle => by have := (h n (by omega)).mp hle; omega)
        subst hn'; exact le_rfl
    · rw [Finset.le_fold_min]
      refine ⟨le_top, fun x _ => ?_⟩
      split_ifs with hq
      · rw [pw_le]
        by_contra hlt
        have hx : x.val + 1 < n := by omega
        exact absurd (lt_of_lt_of_le hq ((h (x.val + 1) (by omega)).mpr hx)) (lt_irrefl _)
      · rw [pw_le]; omega

/-- The exponent from the count: 0 where no power is reached. -/
def ex (q : EReal) : BitVec 32 := Scalar.select (IntOp.cmpi .eq (cnt q) 0#32) 0#32 (IntOp.subi (cnt q) 126#32)

/-- The exponent bits give the scale. -/
theorem scale_bits (q : EReal) : Ideal.ofBits .f32 (IntOp.shli .vector (IntOp.addi 127#32 (ex q)) 23#32) = scale q := by
  obtain ⟨n, hn, h⟩ := seg q
  rw [scale_eq q n hn h]
  unfold ex
  rw [cnt_eq q n hn h]
  have : ∀ n : Fin 247, IntOp.shli .vector (IntOp.addi 127#32 (Scalar.select (IntOp.cmpi .eq (BitVec.ofNat 32 n.val) 0#32) 0#32
      (IntOp.subi (BitVec.ofNat 32 n.val) 126#32))) 23#32 = BitVec.ofNat 32 (if n.val = 0 then 127 else n.val + 1) <<< 23 := by
    decide +kernel
  rw [this ⟨n, by omega⟩]
  by_cases hz : n = 0
  · simp only [hz, if_true]; exact ofBits_exp 127 (by omega) (by omega)
  · simp only [hz, if_false]; exact ofBits_exp _ (by omega) (by omega)

/-- The negated exponent's bits give the reciprocal. -/
theorem inv_bits (q : EReal) : Ideal.ofBits .f32 (IntOp.shli .vector (IntOp.subi 127#32 (ex q)) 23#32)
    = Ideal.div (Ideal.ofBits .f32 1065353216#32) (scale q) := by
  obtain ⟨n, hn, h⟩ := seg q
  rw [scale_eq q n hn h]
  unfold ex
  rw [cnt_eq q n hn h]
  have : ∀ n : Fin 247, IntOp.shli .vector (IntOp.subi 127#32 (Scalar.select (IntOp.cmpi .eq (BitVec.ofNat 32 n.val) 0#32) 0#32
      (IntOp.subi (BitVec.ofNat 32 n.val) 126#32))) 23#32 = BitVec.ofNat 32 (if n.val = 0 then 127 else 253 - n.val) <<< 23 := by
    decide +kernel
  rw [this ⟨n, by omega⟩, c1]
  have hd : ∀ k : ℕ, k ≤ 253 → Ideal.div (pw 127) (pw k) = pw (254 - k) := by
    intro k hk
    unfold Ideal.div
    have hpos : (0 : ℝ) < (2 : ℝ) ^ ((k : ℤ) - 127) := by positivity
    rw [if_neg (by unfold pw; exact_mod_cast hpos.ne'), pw127, one_mul]
    unfold pw
    rw [← EReal.coe_inv, ← zpow_neg]
    congr 2
    omega
  by_cases hz : n = 0
  · simp only [hz, if_true]
    rw [hd 127 (by omega)]; exact ofBits_exp 127 (by omega) (by omega)
  · simp only [hz, if_false]
    rw [hd (n + 1) (by omega), ofBits_exp _ (by omega) (by omega)]
    unfold pw
    congr 3
    omega

/-- The int8 code, read back, is the value it was made of. -/
theorem zCode_read (z : Fin 128 → EReal) (r : Fin 128) : FloatOps.sitofp (F := Ideal) .bf16 (zCode z r) = zq z r := by
  have hk : ∃ k : ℤ, -127 ≤ k ∧ k ≤ 127 ∧ zq z r = ((k : ℝ) : EReal) := by
    have a : Ideal.ofBits .f32 1123942400#32 = (((127 : ℤ) : ℝ) : EReal) := by
      simp [Ideal.ofBits, Ideal.ieee, -EReal.coe_mul]; norm_num
    have b : Ideal.ofBits .f32 3271426048#32 = (((-127 : ℤ) : ℝ) : EReal) := by
      simp [Ideal.ofBits, Ideal.ieee, -EReal.coe_mul, -EReal.coe_neg]; norm_num
    unfold zq
    rw [a, b]
    generalize Ideal.div (z r) (zScale z) = y
    induction y with
    | bot => exact ⟨-127, by omega, by omega, by
        show min _ (max _ ⊥) = _
        rw [max_eq_left bot_le, min_eq_right (by exact_mod_cast (by norm_num : (-127 : ℝ) ≤ 127))]⟩
    | top => exact ⟨127, by omega, by omega, by
        show min _ (max _ ⊤) = _
        rw [max_eq_right le_top, min_eq_left le_top]⟩
    | coe y => exact ⟨min 127 (max (-127) (Ideal.roundHalfEven y)), by omega, by omega, by
        show min _ (max _ (((Ideal.roundHalfEven y : ℤ) : ℝ) : EReal)) = _
        rw [← EReal.coe_strictMono.monotone.map_max, ← EReal.coe_strictMono.monotone.map_min]
        push_cast
        rfl⟩
  obtain ⟨k, h1, h2, e⟩ := hk
  unfold zCode
  rw [e]
  show (((Ideal.fptosi 8 ((k : ℝ) : EReal)).toInt : ℝ) : EReal) = _
  have : Ideal.fptosi 8 ((k : ℝ) : EReal) = BitVec.ofInt 8 k := by
    unfold Ideal.fptosi
    rw [Ideal.toIntClamped_coe, Int.floor_intCast, Int.ceil_intCast, ite_self]
    congr 1
    norm_num
    omega
  rw [this, BitVec.toInt_ofInt]
  congr 2
  rw [Int.bmod_def]
  split_ifs <;> omega

end Cert.Proof

end
-- ==== Proof.PrepPoint.lean ====
module

public import proofs.«01_k».proof.Proof.Scale
public import proofs.«01_k».proof.Proof.Gen.KernelIdeal.Skeleton
public import Idealize.ShloMosaic.Lib.Pipeline.ValueKit

/-!
  What the first kernel computes of one block, place by place, in the terms of the row functions.
-/

@[expose] public section

set_option maxRecDepth 16384

noncomputable section

namespace Cert.Proof.Prep

open Cert.KernelIdeal Cert.KernelIdeal.Gen Idealize.ShloMosaic

theorem bot16 : Ideal.ofBits .bf16 65408#16 = Ideal.ofBits .f32 4286578688#32 := by
  simp [Ideal.ofBits, Ideal.ieee]

theorem hi16 : Ideal.ofBits .bf16 17376#16 = Ideal.ofBits .f32 1138753536#32 := by
  have a : Ideal.ofBits .bf16 17376#16 = ((448 : ℝ) : EReal) := by
    simp [Ideal.ofBits, Ideal.ieee, -EReal.coe_mul]; norm_num
  have b : Ideal.ofBits .f32 1138753536#32 = ((448 : ℝ) : EReal) := by
    simp [Ideal.ofBits, Ideal.ieee, -EReal.coe_mul]; norm_num
  rw [a, b]

theorem lo16 : Ideal.ofBits .bf16 50144#16 = Ideal.ofBits .f32 3286237184#32 := by
  have a : Ideal.ofBits .bf16 50144#16 = ((-448 : ℝ) : EReal) := by
    simp [Ideal.ofBits, Ideal.ieee, -EReal.coe_mul, -EReal.coe_neg]; norm_num
  have b : Ideal.ofBits .f32 3286237184#32 = ((-448 : ℝ) : EReal) := by
    simp [Ideal.ofBits, Ideal.ieee, -EReal.coe_mul, -EReal.coe_neg]; norm_num
  rw [a, b]

/-- The largest magnitudes of the block's rows. -/
def amaxX (a : FVec Ideal S256x7168 .bf16) : FVec Ideal S256x1 .bf16 :=
  shapeCast S256x1 (multiReduction .maximumf [1] S256 (absf a) 0xFF80#16 reduces_S256x7168_S256 (.inr rfl) rfl) shapeCasts_S256_S256x1

/-- The biased exponents of what the rows need. -/
def evec (v7 : FVec Ideal S256x1 .f32) : IVec S256x1 32 :=
  have v8 : IVec S1x246 32 := iota .tc S1x246 32 [1] iota_S1x246_d1_w32
  have v9 : IVec S1x246 32 := broadcast S1x246 1#32
  have v10 : IVec S1x246 32 := addi v8 v9
  have v11 : IVec S1x246 32 := broadcast S1x246 23#32
  have v12 : IVec S1x246 32 := shli v10 v11
  have v13 : FVec Ideal S1x246 .f32 := bitcastToFloat .f32 v12
  have v14 : FVec Ideal S256x246 .f32 := broadcastTo S256x246 v7 broadcasts_S256x1_S256x246
  have v15 : FVec Ideal S256x246 .f32 := broadcastTo S256x246 v13 broadcasts_S1x246_S256x246
  have v16 : IVec S256x246 1 := cmpf .oge v14 v15
  have v17 : IVec S256x246 32 := broadcast S256x246 1#32
  have v18 : IVec S256x246 32 := broadcast S256x246 0#32
  have v19 : IVec S256x246 32 := select v16 v17 v18
  have v20 : IVec S256 32 := multiReductionI .add [1] S256 v19 0#32 reduces_S256x246_S256 rfl
  have v21 : IVec S256x1 32 := shapeCast S256x1 v20 shapeCasts_S256_S256x1
  have v22 : IVec S256x1 32 := broadcast S256x1 0#32
  have v23 : IVec S256x1 1 := cmpi .eq v21 v22
  have v24 : IVec S256x1 32 := broadcast S256x1 126#32
  have v25 : IVec S256x1 32 := subi v21 v24
  have v26 : IVec S256x1 32 := broadcast S256x1 0#32
  have v27 : IVec S256x1 32 := select v23 v26 v25
  v27

theorem amaxX_at (a : FVec Ideal S256x7168 .bf16) (i : Fin 256) : amaxX a (ix2 i 0)
    = Finset.univ.fold max (Ideal.ofBits .bf16 65408#16) (fun d : Fin 7168 => FloatOps.absf (F := Ideal) (φ := .bf16) (a (ix2 i d))) := by
  pointwise [amaxX]

theorem evec_at (q : FVec Ideal S256x1 .f32) (i : Fin 256) : evec q (ix2 i 0) = ex (q (ix2 i 0)) := by
  unfold ex cnt
  pointwise [evec]

theorem scaled_at (a : FVec Ideal S256x1 .bf16) (i : Fin 256) :
    (mulf (extf .f32 a bitsLt_bf16_f32) (broadcast S256x1 (Scalar.ofBits (F := Ideal) .f32 0x3B124925#32)) : FVec Ideal S256x1 .f32) (ix2 i 0)
      = a (ix2 i 0) * Ideal.ofBits .f32 991054117#32 := rfl

theorem pay4_eq (v0 : FVec Ideal S256x7168 .bf16) : k0_pay4 (F := Ideal) v0 = v0 := by
  unfold k0_pay4
  exact shapeCast_self _ _

section

variable (v0 : FVec Ideal S256x7168 .bf16) (i : Fin 256)

/-- What the block's row needs, as the kernel computes it: in bf16, which is no other value. -/
theorem need16 : Finset.univ.fold max (Ideal.ofBits .bf16 65408#16)
      (fun d : Fin 7168 => FloatOps.absf (F := Ideal) (φ := .bf16) (v0 (ix2 i d))) * Ideal.ofBits .f32 991054117#32
    = need fun d : Fin 7168 => v0 (ix2 i d) := by
  unfold need amax
  rw [bot16]
  have e : (fun d : Fin 7168 => FloatOps.absf (F := Ideal) (φ := .bf16) (v0 (ix2 i d)))
      = fun d : Fin 7168 => FloatOps.absf (F := Ideal) (φ := .f32) (v0 (ix2 i d)) := funext fun d => rfl
  rw [e]

theorem xe_at : (k0_pay5 (F := Ideal) v0 : IVec S256x1 32) (ix2 i 0) = ex (need fun d : Fin 7168 => v0 (ix2 i d)) := by
  rw [show k0_pay5 (F := Ideal) v0 = evec (mulf (extf .f32 (amaxX (k0_pay4 (F := Ideal) v0)) bitsLt_bf16_f32)
      (broadcast S256x1 (Scalar.ofBits (F := Ideal) .f32 0x3B124925#32))) from rfl, evec_at, scaled_at, pay4_eq, amaxX_at, need16]

theorem xs_at : (k0_pay6 (F := Ideal) v0 : FVec Ideal S256x1 .f32) (ix2 i 0) = rowScale fun d : Fin 7168 => v0 (ix2 i d) := by
  unfold rowScale
  rw [← scale_bits, ← xe_at]
  pointwise [k0_pay6]

theorem xd_at (d : Fin 7168) : (k0_pay7 (F := Ideal) v0 : FVec Ideal S256x7168 .bf16) (ix2 i d)
    = v0 (ix2 i d) * Ideal.div (Ideal.ofBits .f32 1065353216#32) (rowScale fun d : Fin 7168 => v0 (ix2 i d)) := by
  unfold rowScale
  rw [← inv_bits, ← xe_at]
  pointwise [k0_pay7]
  rw [pay4_eq]

end

theorem clip_at (v40 : FVec Ideal S256x7168 .bf16) (lo hi : Ideal .bf16) (i : Fin 256) (d : Fin 7168) :
    (k0_pay8 (F := Ideal) v40 lo hi : FVec Ideal S256x7168 .fp8e4m3) (ix2 i d) = min hi (max lo (v40 (ix2 i d))) := by
  pointwise [k0_pay8]

section

variable (v32 : FVec Ideal S256x1 .f32) (v40 : FVec Ideal S256x7168 .bf16) (lo hi : Ideal .bf16)
  (v47 : FVec Ideal S128x7168 .fp8e4m3) (v51 : FVec Ideal S1x128 .f32) (i : Fin 256)

/-- The projection of row `i` of the block. -/
abbrev zrow (r : Fin 128) : EReal :=
  proj (fun x : Fin 7168 => min hi (max lo (v40 (ix2 i x)))) (v32 (ix2 i 0)) (fun r x => v47 (ix2 r x)) (fun r => v51 (ix2 0 r)) r

theorem z_at (r : Fin 128) : (k0_pay9 (F := Ideal) v32 v40 lo hi v47 v51 : FVec Ideal S256x128 .f32) (ix2 i r)
    = zrow v32 v40 lo hi v47 v51 i r := by
  unfold zrow proj
  pointwise [k0_pay9, k0_pay8]

theorem zs_at : (k0_pay10 (F := Ideal) v32 v40 lo hi v47 v51 : FVec Ideal S256x1 .f32) (ix2 i 0)
    = zScale (zrow v32 v40 lo hi v47 v51 i) := by
  unfold zScale amax zrow proj
  pointwise [k0_pay10, k0_pay9, k0_pay8]

theorem zb_at (r : Fin 128) : (k0_pay13 (F := Ideal) v32 v40 lo hi v47 v51 : FVec Ideal S256x128 .bf16) (ix2 i r)
    = zq (zrow v32 v40 lo hi v47 v51 i) r := by
  unfold zq zScale amax zrow proj
  pointwise [k0_pay13, k0_pay11, k0_pay10, k0_pay9, k0_pay8]

theorem zc_at (r : Fin 128) : (k0_pay12 (F := Ideal) v32 v40 lo hi v47 v51 : IVec S256x128 8) (ix2 i r)
    = zCode (zrow v32 v40 lo hi v47 v51 i) r := by
  unfold zCode zq zScale amax zrow proj
  pointwise [k0_pay12, k0_pay11, k0_pay10, k0_pay9, k0_pay8]

end

section

variable (h : FVec Ideal S256x128 .f32) (i : Fin 256)

theorem he_at : (k0_pay18 (F := Ideal) h : IVec S256x1 32) (ix2 i 0) = ex (need fun r : Fin 128 => h (ix2 i r)) := by
  unfold ex cnt need amax
  pointwise [k0_pay18]

theorem hs_at : (k0_pay19 (F := Ideal) h : FVec Ideal S256x1 .f32) (ix2 i 0) = rowScale fun r : Fin 128 => h (ix2 i r) := by
  unfold rowScale
  rw [← scale_bits]
  unfold ex cnt need amax
  pointwise [k0_pay19, k0_pay18]

theorem hc_at (r : Fin 128) : (k0_pay22 (F := Ideal) h (k0_pay20 (F := Ideal) h) k0_pay21 : FVec Ideal S256x128 .fp8e4m3) (ix2 i r)
    = codes (fun r : Fin 128 => h (ix2 i r)) r := by
  unfold codes rowScale
  rw [← inv_bits, ← he_at]
  pointwise [k0_pay22, k0_pay20, k0_pay21]

end

theorem wide_x (v : FVec Ideal S256x1 .f32) (i : Fin 256) (r : Fin 128) :
    (k0_pay23 (F := Ideal) v : FVec Ideal S256x128 .f32) (ix2 i r) = v (ix2 i 0) := by
  pointwise [k0_pay23]

theorem wide_h (v : FVec Ideal S256x1 .f32) (i : Fin 256) (r : Fin 128) :
    (k0_pay24 (F := Ideal) v : FVec Ideal S256x128 .f32) (ix2 i r) = v (ix2 i 0) := by
  pointwise [k0_pay24]

theorem row_x (v : FVec Ideal S256x1 .f32) (r : Fin 256) :
    (k0_pay1 (F := Ideal) v : FVec Ideal S1x256 .f32) (ix2 0 r) = v (ix2 r 0) := by
  pointwise [k0_pay1]

theorem row_z (v : FVec Ideal S256x1 .f32) (r : Fin 256) :
    (k0_pay2 (F := Ideal) v : FVec Ideal S1x256 .f32) (ix2 0 r) = v (ix2 r 0) := by
  pointwise [k0_pay2]

theorem row_h (v : FVec Ideal S256x1 .f32) (r : Fin 256) :
    (k0_pay3 (F := Ideal) v : FVec Ideal S1x256 .f32) (ix2 0 r) = v (ix2 r 0) := by
  pointwise [k0_pay3]

end Cert.Proof.Prep

end
-- ==== Proof.LoopValue.lean ====
module

public import proofs.«01_k».proof.Proof.Spec
public import proofs.«01_k».proof.Proof.PrepData
public import Idealize.ShloMosaic.Lib.VecWindow
public import Idealize.ShloMosaic.Lib.WholeRead
public import Idealize.ShloMosaic.Lib.Pipeline.ValueKit

/-!
  The loop over the tenants, read as values: before trip `n` the carried word is the first row of tenant `n`, and the block's
  products hold, in each row, the product of the last tenant before `n` that holds the row.
-/

@[expose] public section

set_option maxRecDepth 16384

noncomputable section

namespace Cert.Proof.Prep

open Cert.KernelIdeal Cert.KernelIdeal.Gen Idealize.ShloMosaic Idealize.ShloMosaic.TcCoe Idealize.ShloMosaic.Tactic
open Idealize.SL Idealize.SL.RA Idealize.SL.BI Idealize.SL.Sem

/-- The trip's test, as inequalities. -/
theorem test_iff (a s r : BitVec 32) : (Scalar.cmpi CmpIPredicate.ne (Scalar.extui (Scalar.andi (Scalar.andi
      (Scalar.cmpi CmpIPredicate.sgt s r) (Scalar.cmpi CmpIPredicate.slt a (Scalar.addi r 256#32)))
      (Scalar.cmpi CmpIPredicate.sgt s a)) : BitVec 32) 0#32 = 1#1)
    ↔ (r.slt s = true ∧ a.slt (r + 256#32) = true ∧ a.slt s = true) := by
  show (IntOp.cmpi .ne (BitVec.setWidth 32 (BitVec.ofBool (r.slt s) &&& BitVec.ofBool (a.slt (r + 256#32))
    &&& BitVec.ofBool (a.slt s))) 0#32 = 1#1) ↔ _
  generalize r.slt s = x
  generalize a.slt (r + 256#32) = y
  generalize a.slt s = z
  revert x y z
  decide

/-- The store's selection, as inequalities. -/
theorem sel_iff {α : Type} (a s r : BitVec 32) (A B : α) :
    Scalar.select (IntOp.andi (IntOp.cmpi .sge r a) (IntOp.cmpi .slt r (Scalar.addi a s))) A B
      = if a.sle r = true ∧ r.slt (a + s) = true then A else B := by
  show Scalar.select (BitVec.ofBool (a.sle r) &&& BitVec.ofBool (r.slt (a + s))) A B = _
  generalize a.sle r = x
  generalize r.slt (a + s) = y
  cases x <;> cases y <;> rfl

/-- The word of a row of a block. -/
theorem row_word (a i : ℕ) (ha : a < 16) (hi : i < 256) :
    IntOp.addi (Scalar.muli (BitVec.ofNat 32 a) 256#32) (BitVec.ofNat 32 i) = BitVec.ofNat 32 (256 * a + i) := by
  show BitVec.ofNat 32 a * 256#32 + BitVec.ofNat 32 i = _
  apply BitVec.eq_of_toNat_eq
  simp only [BitVec.toNat_add, BitVec.toNat_mul, BitVec.toNat_ofNat]
  omega

theorem toInt_small (n : ℕ) (h : n < 8192) : (BitVec.ofNat 32 n).toInt = n := by
  rw [BitVec.toInt_eq_toNat_of_lt (by rw [BitVec.toNat_ofNat]; omega), BitVec.toNat_ofNat]
  omega

/-- A tenant that holds a row of the block passes the trip's test. -/
theorem test_of_held (a s : BitVec 32) (b i : ℕ) (hb : b < 16) (hi : i < 256)
    (h1 : a.sle (BitVec.ofNat 32 (256 * b + i)) = true) (h2 : (BitVec.ofNat 32 (256 * b + i)).slt s = true) :
    (Scalar.muli (BitVec.ofNat 32 b) 256#32).slt s = true ∧ a.slt (Scalar.muli (BitVec.ofNat 32 b) 256#32 + 256#32) = true
      ∧ a.slt s = true := by
  have e1 : Scalar.muli (BitVec.ofNat 32 b) 256#32 = BitVec.ofNat 32 (256 * b) := by
    show BitVec.ofNat 32 b * 256#32 = _
    apply BitVec.eq_of_toNat_eq
    simp only [BitVec.toNat_mul, BitVec.toNat_ofNat]
    omega
  have e2 : Scalar.muli (BitVec.ofNat 32 b) 256#32 + 256#32 = BitVec.ofNat 32 (256 * b + 256) := by
    rw [e1, BitVec.ofNat_add]
  rw [e2, e1]
  rw [BitVec.sle_iff_toInt_le, toInt_small _ (by omega)] at h1
  rw [BitVec.slt_iff_toInt_lt, toInt_small _ (by omega)] at h2
  simp only [BitVec.slt_iff_toInt_lt, toInt_small (256 * b) (by omega), toInt_small (256 * b + 256) (by omega)]
  refine ⟨?_, ?_, ?_⟩ <;> push_cast at * <;> omega

/-- A trip's product at one place. -/
theorem pay17_at (v63 : FVec Ideal S256x1 .f32) (v73 : FVec Ideal S256x128 .bf16) (v77 : IVec S256x128 32)
    (a s : BitVec 32) (v195 : Vec Ideal S1x128x128 .i8) (v202 : FVec Ideal S1x128 .f32) (v210 : FVec Ideal S256x128 .f32) (i : Fin 256) (r : Fin 128) :
    (k0_pay17 (F := Ideal) v63 v73 v77 a s v195 v202 v210 : FVec Ideal S256x128 .f32) (ix2 i r)
      = Scalar.select (IntOp.andi (IntOp.cmpi .sge (v77 (ix2 i r)) a) (IntOp.cmpi .slt (v77 (ix2 i r)) (Scalar.addi a s)))
        ((∑ x : Fin 128, v73 (ix2 i x) * FloatOps.sitofp (F := Ideal) .bf16 (v195 (ix3 0 x r))) * v63 (ix2 i 0) * v202 (ix2 0 r)) (v210 (ix2 i r)) := by
  pointwise [k0_pay17]

theorem pay14_at (a : BitVec 32) (i : Fin 256) (r : Fin 128) :
    (k0_pay14 a : IVec S256x128 32) (ix2 i r) = IntOp.addi (Scalar.muli a 256#32) (BitVec.ofNat 32 ↑i) := by
  pointwise [k0_pay14]

theorem zeros_at (i : Fin 256) (r : Fin 128) : (k0_pay16 (F := Ideal) k0_pay15 : FVec Ideal S256x128 .f32) (ix2 i r) = 0 := by
  pointwise [k0_pay16, k0_pay15]

/-- Where a trip's loads lie. -/
theorem offs : ∀ k : Fin k0_t1_loop.trips, k0_off1 k = ![k.val] ∧ k0_off2 k = ![k.val, 0, 0] ∧ k0_off3 k = ![k.val, 0] := by
  decide +kernel

theorem trips_eq : k0_t1_loop.trips = 33 := by decide +kernel

section

variable (𝒱 : Variants) (bd : Option 𝒱.V) (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec Ideal S256x1 .f32) (v73 : FVec Ideal S256x128 .bf16) (v78 : FVec Ideal S256x128 .f32)
  (x0 : Vec Ideal S33 .i32) (x4 : Vec Ideal S33x128x128 .i8) (x5 : Vec Ideal S33x128 .f32)

/-- The size the trip loads. -/
theorem size_at (k : Fin k0_t1_loop.trips) (inb : ∀ a, k0_off1 k a + (![1] : Fin 1 → ℕ) a ≤ S33.size a) (y : (Rect.unit (s := S33) (k0_off1 k) ![1] inb).shape.Idx) :
    View.readAt (Elt Ideal) arg1.view (Rect.unit (s := S33) (k0_off1 k) ![1] inb).toLoadRect (harg1.unread x0) y
      = x0 (ix1 ⟨k.val, trips_eq ▸ k.isLt⟩) := by
  refine (Memref.IsWhole.readAt_unread harg1 _ _ _).trans (congrArg x0 (funext fun a => Fin.ext ?_))
  have hy : (y 0).val < 1 := (y 0).isLt
  have := (offs k).1
  fin_cases a
  have e : k0_off1 k 0 = k.val := congrFun this 0
  show k0_off1 k 0 + 1 * (y 0).val = k.val
  omega

/-- The tenant's matrix the trip loads. -/
theorem mat_at (k : Fin k0_t1_loop.trips) (inb : ∀ a, k0_off2 k a + (![1, 128, 128] : Fin 3 → ℕ) a ≤ S33x128x128.size a) (x r : Fin 128) :
    View.readAt (Elt Ideal) arg5.view (Rect.unit (s := S33x128x128) (k0_off2 k) ![1, 128, 128] inb).toLoadRect (harg5.unread x4) (ix3 0 x r)
      = x4 (ix3 ⟨k.val, trips_eq ▸ k.isLt⟩ x r) := by
  refine (Memref.IsWhole.readAt_unread harg5 _ _ _).trans (congrArg x4 (funext fun a => Fin.ext ?_))
  have := (offs k).2.1
  fin_cases a
  · show k0_off2 k 0 + 1 * 0 = k.val
    exact (Nat.add_zero _).trans (congrFun this 0)
  · show k0_off2 k 1 + 1 * x.val = x.val
    have e : k0_off2 k 1 = 0 := congrFun this 1
    omega
  · show k0_off2 k 2 + 1 * r.val = r.val
    have e : k0_off2 k 2 = 0 := congrFun this 2
    omega

/-- The tenant's column scales the trip loads. -/
theorem col_at (k : Fin k0_t1_loop.trips) (inb : ∀ a, k0_off3 k a + (![1, 128] : Fin 2 → ℕ) a ≤ S33x128.size a) (r : Fin 128) :
    View.readAt (Elt Ideal) arg6.view (Rect.unit (s := S33x128) (k0_off3 k) ![1, 128] inb).toLoadRect (harg6.unread x5) (ix2 0 r)
      = x5 (ix2 ⟨k.val, trips_eq ▸ k.isLt⟩ r) := by
  refine (Memref.IsWhole.readAt_unread harg6 _ _ _).trans (congrArg x5 (funext fun a => Fin.ext ?_))
  have := (offs k).2.2
  fin_cases a
  · show k0_off3 k 0 + 1 * 0 = k.val
    exact (Nat.add_zero _).trans (congrFun this 0)
  · show k0_off3 k 1 + 1 * r.val = r.val
    have e : k0_off3 k 1 = 0 := congrFun this 1
    omega

/-- The product of tenant `t` at row `j`, column `r` of the block. -/
def prod (t : Fin 33) (j : Fin 256) (r : Fin 128) : EReal :=
  (∑ x : Fin 128, v73 (ix2 j x) * FloatOps.sitofp (F := Ideal) .bf16 (x4 (ix3 t x r))) * v63 (ix2 j 0) * x5 (ix2 t r)

/-- What a trip yields. -/
theorem trip_word (k : Fin k0_t1_loop.trips) (acc : BitVec 32) (f : BufTy.Contents (Elt Ideal) arg15.view.ty) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 (Scalar.muli (BitVec.ofNat 32 ↑(i 0)) 256#32) (k0_pay14 (BitVec.ofNat 32 ↑(i 0))) v78 (harg1.unread x0) (harg5.unread x4) (harg6.unread x5) k).1 acc f = acc + x0 (ix1 ⟨k.val, trips_eq ▸ k.isLt⟩) := by
  unfold trip_k0_t1
  sl_unfold_run_names
  dsimp only
  exact congrArg (acc + ·) (size_at arg1 harg1 x0 k _ _)

/-- What a trip leaves in the block's products. -/
theorem trip_read (k : Fin k0_t1_loop.trips) (acc : BitVec 32) (G : BufTy.Contents (Elt Ideal) arg15.view.ty)
    (L : List (View.Piece (Elt Ideal) S256x128 .f32)) (j : Fin 256) (r : Fin 128) :
    arg15.view.read (Elt Ideal) (arg15.view.writes (Elt Ideal) G ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 (Scalar.muli (BitVec.ofNat 32 ↑(i 0)) 256#32) (k0_pay14 (BitVec.ofNat 32 ↑(i 0))) v78 (harg1.unread x0) (harg5.unread x4) (harg6.unread x5) k).2.1 acc (arg15.view.writes (Elt Ideal) G L) ++ L)) (ix2 j r)
      = if acc.sle (BitVec.ofNat 32 (256 * (i 0).val + j.val)) = true
            ∧ (BitVec.ofNat 32 (256 * (i 0).val + j.val)).slt (acc + x0 (ix1 ⟨k.val, trips_eq ▸ k.isLt⟩)) = true
        then prod v63 v73 x4 x5 ⟨k.val, trips_eq ▸ k.isLt⟩ j r
        else arg15.view.read (Elt Ideal) (arg15.view.writes (Elt Ideal) G L) (ix2 j r) := by
  have hb : (i 0).val < 16 := (i 0).isLt
  unfold trip_k0_t1
  sl_unfold_run_names
  dsimp only
  rw [size_at arg1 harg1 x0 k]
  split_ifs with hc hh hh
  · rw [List.singleton_append]
    refine (congrFun (View.read_writes_full arg15.view G (s := S256x128) (off := ![0, 0]) inb_S256x128_S256x128_0_0 _ L) (ix2 j r)).trans ?_
    rw [pay17_at, pay14_at, row_word _ _ hb j.isLt, sel_iff, if_pos hh]
    unfold prod
    simp only [mat_at arg5 harg5 x4 k, col_at arg6 harg6 x5 k]
  · rw [List.singleton_append]
    refine (congrFun (View.read_writes_full arg15.view G (s := S256x128) (off := ![0, 0]) inb_S256x128_S256x128_0_0 _ L) (ix2 j r)).trans ?_
    rw [pay17_at, pay14_at, row_word _ _ hb j.isLt, sel_iff, if_neg hh]
    exact congrFun (View.readAt_full arg15.view _ (s := S256x128) (off := ![0, 0]) inb_S256x128_S256x128_0_0) (ix2 j r)
  · exact absurd ((test_iff _ _ _).mpr (test_of_held _ _ _ _ hb j.isLt hh.1 hh.2)) hc
  · rfl

/-- Before trip `n`: the first row of tenant `n`, and the products of the last tenants before it. -/
theorem before_trip (G : BufTy.Contents (Elt Ideal) arg15.view.ty)
    (hG : ∀ j r, arg15.view.read (Elt Ideal) G (ix2 j r) = (0 : EReal)) (n : ℕ) (hn : n ≤ 33) :
    (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 (Scalar.muli (BitVec.ofNat 32 ↑(i 0)) 256#32) (k0_pay14 (BitVec.ofNat 32 ↑(i 0))) v78 (harg1.unread x0) (harg5.unread x4) (harg6.unread x5) G 0#32 n).1 = start (fun t => x0 (ix1 t)) n
    ∧ ∀ (j : Fin 256) (r : Fin 128), arg15.view.read (Elt Ideal) (arg15.view.writes (Elt Ideal) G (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 (Scalar.muli (BitVec.ofNat 32 ↑(i 0)) 256#32) (k0_pay14 (BitVec.ofNat 32 ↑(i 0))) v78 (harg1.unread x0) (harg5.unread x4) (harg6.unread x5) G 0#32 n).2) (ix2 j r)
      = lastHeld (fun t => x0 (ix1 t)) (BitVec.ofNat 32 (256 * (i 0).val + j.val)) (fun t => prod v63 v73 x4 x5 t j r) n := by
  induction n with
  | zero => exact ⟨rfl, fun j r => hG j r⟩
  | succ n ih =>
    obtain ⟨ih1, ih2⟩ := ih (by omega)
    have hs := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 (Scalar.muli (BitVec.ofNat 32 ↑(i 0)) 256#32) (k0_pay14 (BitVec.ofNat 32 ↑(i 0))) v78 (harg1.unread x0) (harg5.unread x4) (harg6.unread x5) G 0#32 ⟨n, by rw [trips_eq]; omega⟩
    simp only at hs
    rw [hs]
    have hst : start (fun t => x0 (ix1 t)) (n + 1) = start (fun t => x0 (ix1 t)) n + x0 (ix1 ⟨n, by omega⟩) := by
      show _ + (if h : n < 33 then _ else _) = _
      rw [dif_pos (by omega)]
    refine ⟨?_, fun j r => ?_⟩
    · rw [hst, ← ih1]
      exact trip_word _ _ _ _ _ _ _ _ _ _ _ _ _ _ _ _ _ _ _ _ _ _ _ _ _ _ _ _ _ _ _ _ _ _ _ _ _ _ _ _ _ _ _
    · refine (trip_read _ _ _ _ _ _ _ _ _ _ _ _ _ _ _ _ _ _ _ _ _ _ _ _ _ _ _ _ _ _ _ _ _ _ _ _ _ _ _ _ _ _ _ _ j r).trans ?_
      rw [ih1, ih2]
      show _ = (if h : n < 33 then _ else _)
      rw [dif_pos (by omega)]
      unfold held
      exact if_congr (by rw [hst]) rfl rfl

end

end Cert.Proof.Prep

end
-- ==== Proof.Layer.lean ====
module

public import proofs.«01_k».proof.Proof.Spec

/-!
  The layer's seven results at a place, from the arrays: rows of `x` and their codes, the projection, the tenant's product, and
  the layer's output.
-/

@[expose] public section

noncomputable section

open Idealize.ShloMosaic

namespace Cert.Proof

section

variable (X : FVec Ideal ⟨2, ![4096, 7168]⟩ .bf16) (W : FVec Ideal ⟨2, ![7168, 18432]⟩ .fp8e4m3) (ws : FVec Ideal ⟨1, ![18432]⟩ .f32)
  (V : FVec Ideal ⟨2, ![128, 7168]⟩ .fp8e4m3) (vs : FVec Ideal ⟨1, ![128]⟩ .f32) (S : IVec ⟨3, ![33, 128, 128]⟩ 8)
  (sg : FVec Ideal ⟨2, ![33, 128]⟩ .f32) (U : FVec Ideal ⟨2, ![128, 18432]⟩ .fp8e4m3) (us : FVec Ideal ⟨1, ![18432]⟩ .f32)
  (G : IVec ⟨1, ![33]⟩ 32)

/-- Row `i` of `x`. -/
def xRow (i : Fin 4096) : Fin 7168 → EReal := fun d => X (ix2 i d)

/-- Row `i` projected. -/
def zRow (i : Fin 4096) : Fin 128 → EReal :=
  proj (codes (xRow X i)) (rowScale (xRow X i)) (fun r x => V (ix2 r x)) (fun r => vs (ix1 r))

/-- Row `i`'s product with its tenant's matrix; 0 for a row no tenant holds. -/
def hRow (i : Fin 4096) : Fin 128 → EReal := fun r =>
  lastHeld (fun t => G (ix1 t)) (BitVec.ofNat 32 i.val)
    (fun t => tenantAt (zRow X V vs i) (fun x => S (ix3 t x r)) (sg (ix2 t r))) 33

/-- The layer's output at row `i`, column `j`. -/
def yAt (i : Fin 4096) (j : Fin 18432) : EReal :=
  (∑ d : Fin 7168, codes (xRow X i) d * W (ix2 d j)) * rowScale (xRow X i) * ws (ix1 j)
    + (∑ r : Fin 128, codes (hRow X V vs S sg G i) r * U (ix2 r j)) * rowScale (hRow X V vs S sg G i) * us (ix1 j)

end

/-- The row whose scale lies at `y` of the two rows of 2048. -/
def rowOf (y : (⟨2, ![2, 2048]⟩ : Shape).Idx) : Fin 4096 :=
  ⟨2048 * (y 0).val + (y 1).val, by
    have h0 : (y 0).val < 2 := (y 0).isLt
    have h1 : (y 1).val < 2048 := (y 1).isLt
    omega⟩

end Cert.Proof

end
-- ==== Proof.PrepOut.lean ====
module

public import proofs.«01_k».proof.Proof.PrepData
public import proofs.«01_k».proof.Proof.PrepPoint
public import proofs.«01_k».proof.Proof.LoopValue
public import proofs.«01_k».proof.Proof.Layer
public import Idealize.ShloMosaic.Lib.Pipeline.ValueKit
public import Idealize.ShloMosaic.Lib.WholeRead

/-!
  What the first kernel's body leaves in each output's buffer, place by place, from the blocks it loads.
-/

@[expose] public section

set_option maxRecDepth 16384

noncomputable section

open Idealize.ShloMosaic Idealize.ShloMosaic.TcCoe Idealize.SL.Sem

namespace Cert.Proof.Prep

open Cert.KernelIdeal Cert.KernelIdeal.Gen

section Reads

variable {N M : ℕ} {e : EltTy} (A : Memref sig .tc .vmem ⟨2, ![N, M]⟩ e) (hA : A.IsWhole) (X : Vec Ideal ⟨2, ![N, M]⟩ e)

/-- Reading the whole of a buffer holding `X`. -/
theorem read_whole (inb : ∀ a, (![0, 0] : Fin 2 → ℕ) a + (![N, M] : Fin 2 → ℕ) a ≤ (![N, M] : Fin 2 → ℕ) a) :
    View.readAt (Elt Ideal) A.view (Rect.unit (s := ⟨2, ![N, M]⟩) ![0, 0] ![N, M] inb).toLoadRect (hA.unread X) = X := by
  funext x
  refine (Memref.IsWhole.readAt_unread hA _ _ _).trans (congrArg X (funext fun a => Fin.ext ?_))
  fin_cases a
  · show 0 + 1 * (x 0 : ℕ) = x 0
    omega
  · show 0 + 1 * (x 1 : ℕ) = x 1
    omega

end Reads

section

variable (x0 : Vec Ideal S33 .i32) (x1 : Vec Ideal S256x7168 .bf16) (x2 : Vec Ideal S128x7168 .fp8e4m3)
  (x3 : Vec Ideal S1x128 .f32) (x4 : Vec Ideal S33x128x128 .i8) (x5 : Vec Ideal S33x128 .f32)

/-- Row `j` of the block of `x`. -/
def xB (j : Fin 256) : Fin 7168 → EReal := fun d => x1 (ix2 j d)

/-- It projected. -/
def zB (j : Fin 256) : Fin 128 → EReal :=
  proj (codes (xB x1 j)) (rowScale (xB x1 j)) (fun r x => x2 (ix2 r x)) (fun r => x3 (ix2 0 r))

/-- Its product with its tenant's matrix, the block's first row being `256 n`. -/
def hB (n : ℕ) (j : Fin 256) : Fin 128 → EReal := fun r =>
  lastHeld (fun t => x0 (ix1 t)) (BitVec.ofNat 32 (256 * n + j.val))
    (fun t => tenantAt (zB x1 x2 x3 j) (fun x => x4 (ix3 t x r)) (x5 (ix2 t r))) 33

/-- The codes as the kernel computes them. -/
theorem code_at (j : Fin 256) (d : Fin 7168) :
    min (FloatOps.ofBits (F := Ideal) .bf16 17376#16) (max (FloatOps.ofBits (F := Ideal) .bf16 50144#16)
      ((k0_pay7 (F := Ideal) x1 : FVec Ideal S256x7168 .bf16) (ix2 j d))) = codes (xB x1 j) d := by
  rw [xd_at]
  show min (Ideal.ofBits .bf16 17376#16) (max (Ideal.ofBits .bf16 50144#16) _) = _
  rw [hi16, lo16]
  rfl

/-- The projected row as the kernel computes it. -/
theorem zrow_at (j : Fin 256) : zrow (k0_pay6 (F := Ideal) x1) (k0_pay7 (F := Ideal) x1) (FloatOps.ofBits (F := Ideal) .bf16 50144#16)
      (FloatOps.ofBits (F := Ideal) .bf16 17376#16) x2 x3 j = zB x1 x2 x3 j := by
  funext r
  unfold zrow
  simp only [code_at]
  rw [xs_at]
  rfl

/-- One tenant's product as the kernel computes it. -/
theorem prod_at (t : Fin 33) (j : Fin 256) (r : Fin 128) :
    prod (k0_pay10 (F := Ideal) (k0_pay6 (F := Ideal) x1) (k0_pay7 (F := Ideal) x1) (FloatOps.ofBits (F := Ideal) .bf16 50144#16)
      (FloatOps.ofBits (F := Ideal) .bf16 17376#16) x2 x3)
      (k0_pay13 (F := Ideal) (k0_pay6 (F := Ideal) x1) (k0_pay7 (F := Ideal) x1) (FloatOps.ofBits (F := Ideal) .bf16 50144#16)
      (FloatOps.ofBits (F := Ideal) .bf16 17376#16) x2 x3) x4 x5 t j r
      = tenantAt (zB x1 x2 x3 j) (fun x => x4 (ix3 t x r)) (x5 (ix2 t r)) := by
  unfold prod tenantAt
  rw [zs_at, zrow_at]
  simp only [zb_at, zrow_at, zCode_read]

end

section Body

variable (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
  (x0 : Vec Ideal S33 .i32) (x1 : Vec Ideal S256x7168 .bf16) (x2 : Vec Ideal S128x7168 .fp8e4m3)
  (x3 : Vec Ideal S1x128 .f32) (x4 : Vec Ideal S33x128x128 .i8) (x5 : Vec Ideal S33x128 .f32)

/-- The projected rows' scales. -/
abbrev zsOf : FVec Ideal S256x1 .f32 := k0_pay10 (F := Ideal) (k0_pay6 (F := Ideal) x1) (k0_pay7 (F := Ideal) x1) (FloatOps.ofBits (F := Ideal) .bf16 50144#16)
      (FloatOps.ofBits (F := Ideal) .bf16 17376#16) x2 x3
/-- The projected rows' codes, as bf16. -/
abbrev zbOf : FVec Ideal S256x128 .bf16 := k0_pay13 (F := Ideal) (k0_pay6 (F := Ideal) x1) (k0_pay7 (F := Ideal) x1) (FloatOps.ofBits (F := Ideal) .bf16 50144#16)
      (FloatOps.ofBits (F := Ideal) .bf16 17376#16) x2 x3

/-- The zeros the tenants' products are first stored over. -/
abbrev zeroPiece : View.Piece (Elt Ideal) S256x128 .f32 :=
  ⟨Rect.unit (s := S256x128) ![0, 0] S256x128.size inb_S256x128_S256x128_0_0, k0_pay16 (F := Ideal) (k0_pay15 (F := Ideal))⟩

/-- The tenants' products after the loop. -/
def hOf : FVec Ideal S256x128 .f32 :=
  arg15.view.readCov ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (zsOf x1 x2 x3) (zbOf x1 x2 x3)
    (Scalar.muli (BitVec.ofNat 32 ↑(i 0)) 256#32) (k0_pay14 (BitVec.ofNat 32 ↑(i 0))) (k0_pay15 (F := Ideal))
    (harg1.unread x0) (harg5.unread x4) (harg6.unread x5)
    (arg15.view.writes (Elt Ideal) arg15.view.junk [zeroPiece]) 0#32 (Scf.trips 0#32 (Scalar.addi 0#32 33#32) 1#32)).2 ++ [zeroPiece])
    (Rect.unit (s := S256x128) ![0, 0] S256x128.size inb_S256x128_S256x128_0_0).toLoadRect

theorem hOf_at (j : Fin 256) (r : Fin 128) : hOf c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (ix2 j r) = hB x0 x1 x2 x3 x4 x5 (i 0).val j r := by
  unfold hOf hB
  have hG : ∀ (j : Fin 256) (r : Fin 128), arg15.view.read (Elt Ideal) (arg15.view.writes (Elt Ideal) arg15.view.junk [zeroPiece]) (ix2 j r) = (0 : EReal) := by
    intro j r
    rw [View.read_writes_junk_eq_canon, View.canon_unit_zero (by funext a; fin_cases a <;> rfl)]
    exact zeros_at j r
  have h := (before_trip Variants.none none c i arg1 harg1 arg2 harg2 arg3 harg3 arg4 harg4 arg5 harg5 arg6 harg6 arg7 harg7 arg8 harg8 arg9 harg9 arg10 harg10 arg11 harg11 arg12 harg12 arg13 harg13 arg14 harg14 arg15 harg15 (zsOf x1 x2 x3) (zbOf x1 x2 x3) (k0_pay15 (F := Ideal)) x0 x4 x5 _ hG 33 (le_refl _)).2 j r
  simp only [prod_at] at h
  refine Eq.trans ?_ h
  have e : Scf.trips 0#32 (Scalar.addi 0#32 33#32) 1#32 = 33 := by decide +kernel
  rw [e]
  rw [View.readCov, View.readAt_full, View.writes_append]

theorem list6 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).1 = [⟨Rect.unit (s := S256x7168) ![0, 0] S256x7168.size inb_S256x7168_S256x7168_0_0, k0_pay8 (F := Ideal) (k0_pay7 (F := Ideal) x1) (FloatOps.ofBits (F := Ideal) .bf16 50144#16) (FloatOps.ofBits (F := Ideal) .bf16 17376#16)⟩] := by
  have e2 := read_whole arg2 harg2 x1 inb_S256x7168_S256x7168_0_0
  have e3 := read_whole arg3 harg3 x2 inb_S128x7168_S128x7168_0_0
  have e4 := read_whole arg4 harg4 x3 inb_S1x128_S1x128_0_0
  unfold kernelRun0_A
  sl_unfold_run_names
  dsimp only
  rw [e2]
  all_goals rfl

theorem list7 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.1 = [⟨Rect.unit (s := S2x2048) (k0_off4 i) S1x256.size (k0_off4_inb i), k0_pay1 (F := Ideal) (k0_pay6 (F := Ideal) x1)⟩] := by
  have e2 := read_whole arg2 harg2 x1 inb_S256x7168_S256x7168_0_0
  have e3 := read_whole arg3 harg3 x2 inb_S128x7168_S128x7168_0_0
  have e4 := read_whole arg4 harg4 x3 inb_S1x128_S1x128_0_0
  unfold kernelRun0_A
  sl_unfold_run_names
  dsimp only
  rw [e2]
  all_goals rfl

theorem list8 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.1 = [⟨Rect.unit (s := S256x128) ![0, 0] S256x128.size inb_S256x128_S256x128_0_0, k0_pay12 (F := Ideal) (k0_pay6 (F := Ideal) x1) (k0_pay7 (F := Ideal) x1) (FloatOps.ofBits (F := Ideal) .bf16 50144#16) (FloatOps.ofBits (F := Ideal) .bf16 17376#16) x2 x3⟩] := by
  have e2 := read_whole arg2 harg2 x1 inb_S256x7168_S256x7168_0_0
  have e3 := read_whole arg3 harg3 x2 inb_S128x7168_S128x7168_0_0
  have e4 := read_whole arg4 harg4 x3 inb_S1x128_S1x128_0_0
  unfold kernelRun0_A
  sl_unfold_run_names
  dsimp only
  rw [e2, e3, e4]
  all_goals rfl

theorem list9 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.1 = [⟨Rect.unit (s := S2x2048) (k0_off4 i) S1x256.size (k0_off4_inb i), k0_pay2 (F := Ideal) (k0_pay10 (F := Ideal) (k0_pay6 (F := Ideal) x1) (k0_pay7 (F := Ideal) x1) (FloatOps.ofBits (F := Ideal) .bf16 50144#16) (FloatOps.ofBits (F := Ideal) .bf16 17376#16) x2 x3)⟩] := by
  have e2 := read_whole arg2 harg2 x1 inb_S256x7168_S256x7168_0_0
  have e3 := read_whole arg3 harg3 x2 inb_S128x7168_S128x7168_0_0
  have e4 := read_whole arg4 harg4 x3 inb_S1x128_S1x128_0_0
  unfold kernelRun0_A
  sl_unfold_run_names
  dsimp only
  rw [e2, e3, e4]
  all_goals rfl

theorem list10 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.1 = [⟨Rect.unit (s := S256x128) ![0, 0] S256x128.size inb_S256x128_S256x128_0_0, k0_pay22 (F := Ideal) (hOf c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5) (k0_pay20 (F := Ideal) (hOf c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5)) k0_pay21⟩] := by
  have e2 := read_whole arg2 harg2 x1 inb_S256x7168_S256x7168_0_0
  have e3 := read_whole arg3 harg3 x2 inb_S128x7168_S128x7168_0_0
  have e4 := read_whole arg4 harg4 x3 inb_S1x128_S1x128_0_0
  unfold hOf kernelRun0_A
  sl_unfold_run_names
  dsimp only
  rw [e2, e3, e4]
  all_goals rfl

theorem list11 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.1 = [⟨Rect.unit (s := S2x2048) (k0_off4 i) S1x256.size (k0_off4_inb i), k0_pay3 (F := Ideal) (k0_pay19 (F := Ideal) (hOf c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5))⟩] := by
  have e2 := read_whole arg2 harg2 x1 inb_S256x7168_S256x7168_0_0
  have e3 := read_whole arg3 harg3 x2 inb_S128x7168_S128x7168_0_0
  have e4 := read_whole arg4 harg4 x3 inb_S1x128_S1x128_0_0
  unfold hOf kernelRun0_A
  sl_unfold_run_names
  dsimp only
  rw [e2, e3, e4]
  all_goals rfl

theorem list12 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.1 = [⟨Rect.unit (s := S256x128) ![0, 0] S256x128.size inb_S256x128_S256x128_0_0, k0_pay23 (F := Ideal) (k0_pay6 (F := Ideal) x1)⟩] := by
  have e2 := read_whole arg2 harg2 x1 inb_S256x7168_S256x7168_0_0
  have e3 := read_whole arg3 harg3 x2 inb_S128x7168_S128x7168_0_0
  have e4 := read_whole arg4 harg4 x3 inb_S1x128_S1x128_0_0
  unfold kernelRun0_A
  sl_unfold_run_names
  dsimp only
  rw [e2]
  all_goals rfl

theorem list13 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.2.1 = [⟨Rect.unit (s := S256x128) ![0, 0] S256x128.size inb_S256x128_S256x128_0_0, k0_pay24 (F := Ideal) (k0_pay19 (F := Ideal) (hOf c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5))⟩] := by
  have e2 := read_whole arg2 harg2 x1 inb_S256x7168_S256x7168_0_0
  have e3 := read_whole arg3 harg3 x2 inb_S128x7168_S128x7168_0_0
  have e4 := read_whole arg4 harg4 x3 inb_S1x128_S1x128_0_0
  unfold hOf kernelRun0_A
  sl_unfold_run_names
  dsimp only
  rw [e2, e3, e4]
  all_goals rfl

theorem out6_at (j : Fin 256) (d : Fin 7168) : out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (ix2 j d) = codes (xB x1 j) d := by
  unfold out0_A_6
  rw [View.read_writes_junk_eq_canon, list6, View.canon_unit_zero (by funext a; fin_cases a <;> rfl)]
  rw [clip_at, code_at]

theorem out8_at (j : Fin 256) (r : Fin 128) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (ix2 j r) = zCode (zB x1 x2 x3 j) r := by
  unfold out0_A_8
  rw [View.read_writes_junk_eq_canon, list8, View.canon_unit_zero (by funext a; fin_cases a <;> rfl)]
  rw [zc_at, zrow_at]

theorem out10_at (j : Fin 256) (r : Fin 128) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (ix2 j r) = codes (hB x0 x1 x2 x3 x4 x5 (i 0).val j) r := by
  unfold out0_A_10
  rw [View.read_writes_junk_eq_canon, list10, View.canon_unit_zero (by funext a; fin_cases a <;> rfl)]
  have hh : (fun r : Fin 128 => hOf c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (ix2 j r)) = hB x0 x1 x2 x3 x4 x5 (i 0).val j := funext fun r => hOf_at c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 j r
  rw [hc_at, hh]

theorem out12_at (j : Fin 256) (r : Fin 128) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (ix2 j r) = rowScale (xB x1 j) := by
  unfold out0_A_12
  rw [View.read_writes_junk_eq_canon, list12, View.canon_unit_zero (by funext a; fin_cases a <;> rfl)]
  rw [wide_x, xs_at]
  rfl

theorem out13_at (j : Fin 256) (r : Fin 128) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (ix2 j r) = rowScale (hB x0 x1 x2 x3 x4 x5 (i 0).val j) := by
  unfold out0_A_13
  rw [View.read_writes_junk_eq_canon, list13, View.canon_unit_zero (by funext a; fin_cases a <;> rfl)]
  have hh : (fun r : Fin 128 => hOf c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (ix2 j r)) = hB x0 x1 x2 x3 x4 x5 (i 0).val j := funext fun r => hOf_at c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 j r
  rw [wide_h, hs_at, hh]

theorem place (j : Fin 256) (h0 : (i 0).val < 16) :
    (Rect.unit (s := S2x2048) (k0_off4 i) S1x256.size (k0_off4_inb i)).emb (ix2 (n0 := 1) (n1 := 256) 0 j)
      = (ix2 ⟨(i 0).val / 8, by omega⟩ ⟨256 * ((i 0).val % 8) + j.val, by omega⟩ : S2x2048.Idx) := by
  have e := k0_off4_eq i
  refine funext fun a => Fin.ext ?_
  fin_cases a
  · have e0 : k0_off4 i 0 = (i 0).val / 8 := congrFun e 0
    show k0_off4 i 0 + 1 * 0 = (i 0).val / 8
    omega
  · have e1 : k0_off4 i 1 = 256 * ((i 0).val % 8) := congrFun e 1
    show k0_off4 i 1 + 1 * j.val = 256 * ((i 0).val % 8) + j.val
    omega

theorem out7_at (j : Fin 256) (h0 : (i 0).val < 16) : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5
    (ix2 ⟨(i 0).val / 8, by omega⟩ ⟨256 * ((i 0).val % 8) + j.val, by omega⟩) = rowScale (xB x1 j) := by
  unfold out0_A_7
  rw [View.read_writes_junk_eq_canon, list7, ← place i j h0]
  refine (View.canon_cons_emb _ _ _ _).trans ?_
  rw [row_x, xs_at]
  rfl

theorem out9_at (j : Fin 256) (h0 : (i 0).val < 16) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5
    (ix2 ⟨(i 0).val / 8, by omega⟩ ⟨256 * ((i 0).val % 8) + j.val, by omega⟩) = zScale (zB x1 x2 x3 j) := by
  unfold out0_A_9
  rw [View.read_writes_junk_eq_canon, list9, ← place i j h0]
  refine (View.canon_cons_emb _ _ _ _).trans ?_
  rw [row_z, zs_at, zrow_at]

theorem out11_at (j : Fin 256) (h0 : (i 0).val < 16) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5
    (ix2 ⟨(i 0).val / 8, by omega⟩ ⟨256 * ((i 0).val % 8) + j.val, by omega⟩) = rowScale (hB x0 x1 x2 x3 x4 x5 (i 0).val j) := by
  unfold out0_A_11
  rw [View.read_writes_junk_eq_canon, list11, ← place i j h0]
  refine (View.canon_cons_emb _ _ _ _).trans ?_
  have hh : (fun r : Fin 128 => hOf c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 (ix2 j r)) = hB x0 x1 x2 x3 x4 x5 (i 0).val j := funext fun r => hOf_at c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 j r
  rw [row_h, hs_at, hh]

end Body

end Cert.Proof.Prep

end
-- ==== Proof.PrepValue.lean ====
module

public import proofs.«01_k».proof.Proof.PrepOut
public import Idealize.ShloMosaic.Lib.Pipeline.ValueKit

/-!
  The arrays the first call leaves: at each place the row functions of the arrays it finds.
-/

@[expose] public section

set_option maxRecDepth 16384

noncomputable section

open Idealize.ShloMosaic Idealize.ShloMosaic.TcCoe Idealize.SL.Sem
open Idealize.ShloMosaic.Pipeline (Dat)

namespace Cert.Proof.Prep

open Cert.KernelIdeal Cert.KernelIdeal.Gen

variable (V : (c : Dev nD) → (b : Ref sig .tc) → Buf (Elt Ideal) ((c : Thread nD τ).loc b))

/-- The one row of an array of one row. -/
def row1 {n : ℕ} (A : FVec Ideal ⟨2, ![1, n]⟩ .f32) : FVec Ideal ⟨1, ![n]⟩ .f32 := fun x => A (ix2 0 (x 0))

/-- The block index of every window at point `t`. -/
theorem idx : ∀ t : Fin cfg0.N, win0_0.index t = ![0] ∧ win0_1.index t = ![t.val, 0] ∧ win0_2.index t = ![0, 0]
    ∧ win0_3.index t = ![0, 0] ∧ win0_4.index t = ![0, 0, 0] ∧ win0_5.index t = ![0, 0]
    ∧ win0_6.index t = ![t.val, 0] ∧ win0_7.index t = ![0, 0] ∧ win0_8.index t = ![t.val, 0] ∧ win0_9.index t = ![0, 0]
    ∧ win0_10.index t = ![t.val, 0] ∧ win0_11.index t = ![0, 0] ∧ win0_12.index t = ![t.val, 0] ∧ win0_13.index t = ![t.val, 0] :=
  (by decide +kernel : ∀ t : Fin grid0.N, _)

theorem coord : ∀ t : Fin cfg0.N, ((grid0.coords t) 0).val = t.val := (by decide +kernel : ∀ t : Fin grid0.N, _)

theorem blk0 (c : Dev nD) (t : Fin cfg0.N) (n : Fin 33) : iblk0 V c 0 t (ix1 n) = V c main_arg9 (ix1 n) := by
  blk_point [iblk0, idx t]

theorem blk1 (c : Dev nD) (t : Fin cfg0.N) (j : Fin 256) (d : Fin 7168) (i : Fin 4096) (h : i.val = t.val * 256 + j.val) :
    iblk0 V c 1 t (ix2 j d) = V c main_v0 (ix2 i d) := by
  blk_point [iblk0, idx t]

theorem blk2 (c : Dev nD) (t : Fin cfg0.N) (r : Fin 128) (d : Fin 7168) : iblk0 V c 2 t (ix2 r d) = V c main_arg3 (ix2 r d) := by
  blk_point [iblk0, idx t]

theorem blk3 (c : Dev nD) (t : Fin cfg0.N) (r : Fin 128) : iblk0 V c 3 t (ix2 (0 : Fin 1) r) = V c main_v1 (ix2 (0 : Fin 1) r) := by
  blk_point [iblk0, idx t]

theorem blk4 (c : Dev nD) (t : Fin cfg0.N) (n : Fin 33) (x r : Fin 128) : iblk0 V c 4 t (ix3 n x r) = V c main_arg5 (ix3 n x r) := by
  blk_point [iblk0, idx t]

theorem blk5 (c : Dev nD) (t : Fin cfg0.N) (n : Fin 33) (r : Fin 128) : iblk0 V c 5 t (ix2 n r) = V c main_arg6 (ix2 n r) := by
  blk_point [iblk0, idx t]

section Rows

variable (c : Dev nD) (t : Fin cfg0.N) (j : Fin 256) (i : Fin 4096) (h : i.val = t.val * 256 + j.val)
include h

theorem xB_eq : xB (iblk0 V c 1 t) j = xRow (V c main_v0) i := funext fun d => blk1 V c t j d i h

theorem zB_eq : zB (iblk0 V c 1 t) (iblk0 V c 2 t) (iblk0 V c 3 t) j = zRow (V c main_v0) (V c main_arg3) (row1 (V c main_v1)) i := by
  unfold zB zRow
  rw [xB_eq V c t j i h]
  congr 1
  · exact funext fun r => funext fun x => blk2 V c t r x
  · exact funext fun r => blk3 V c t r

theorem hB_eq : hB (iblk0 V c 0 t) (iblk0 V c 1 t) (iblk0 V c 2 t) (iblk0 V c 3 t) (iblk0 V c 4 t) (iblk0 V c 5 t) ((grid0.coords t) 0).val j
    = hRow (V c main_v0) (V c main_arg3) (row1 (V c main_v1)) (V c main_arg5) (V c main_arg6) (V c main_arg9) i := by
  funext r
  unfold hB hRow
  rw [zB_eq V c t j i h, coord t]
  have e : 256 * t.val + j.val = i.val := by omega
  have e0 : (fun n : Fin 33 => iblk0 V c 0 t (ix1 n)) = fun n : Fin 33 => V c main_arg9 (ix1 n) := funext fun n => blk0 V c t n
  have e1 : (fun n : Fin 33 => tenantAt (zRow (V c main_v0) (V c main_arg3) (row1 (V c main_v1)) i) (fun x => iblk0 V c 4 t (ix3 n x r)) (iblk0 V c 5 t (ix2 n r)))
      = fun n : Fin 33 => tenantAt (zRow (V c main_v0) (V c main_arg3) (row1 (V c main_v1)) i) (fun x => V c main_arg5 (ix3 n x r)) (V c main_arg6 (ix2 n r)) := by
    funext n
    rw [blk5 V c t n r]
    congr 1
    exact funext fun x => blk4 V c t n x r
  rw [e]
  exact congrArg₂ (fun g v => lastHeld g (BitVec.ofNat 32 i.val) v 33) e0 e1

end Rows

theorem point6 (c : Dev nD) (t : Fin cfg0.N) (y : S256x7168.Idx) (j : (⟨2, ![4096, 7168]⟩ : Shape).Idx)
    (h0 : (j 0 : ℕ) = t.val * 256 + y 0) (h1 : (j 1 : ℕ) = y 1) : codes (xB (iblk0 V c 1 t) (y 0)) (y 1) = codes (xRow (V c main_v0) (j 0)) (j 1) := by
  have e : (y 1 : Fin 7168) = j 1 := Fin.ext h1.symm
  rw [xB_eq V c t (y 0) (j 0) h0]
  exact congrArg _ e

/-- Result array of window 6. -/
theorem final6 (c : Dev nD) : (dat0 V c).arrAt 6 cfg0.N = fun j => codes (xRow (V c main_v0) (j 0)) (j 1) := by
  refine (dat0 V c).arrAt_eq_of_covers 6 _ (by decide +kernel) fun t _ y => ?_
  blk_simp
  rw [after0_6]
  unfold outsAt0
  dsimp only
  refine ((congrArg _ (eq_ix2 y)).trans (out6_at c (grid0.coords t) _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (y 0) (y 1))).trans (point6 V c t y _ ?_ ?_)
  all_goals (blk_simp [idx t] <;> try omega)

theorem point8 (c : Dev nD) (t : Fin cfg0.N) (y : S256x128.Idx) (j : (⟨2, ![4096, 128]⟩ : Shape).Idx)
    (h0 : (j 0 : ℕ) = t.val * 256 + y 0) (h1 : (j 1 : ℕ) = y 1) : zCode (zB (iblk0 V c 1 t) (iblk0 V c 2 t) (iblk0 V c 3 t) (y 0)) (y 1) = zCode (zRow (V c main_v0) (V c main_arg3) (row1 (V c main_v1)) (j 0)) (j 1) := by
  have e : (y 1 : Fin 128) = j 1 := Fin.ext h1.symm
  rw [zB_eq V c t (y 0) (j 0) h0]
  exact congrArg _ e

/-- Result array of window 8. -/
theorem final8 (c : Dev nD) : (dat0 V c).arrAt 8 cfg0.N = fun j => zCode (zRow (V c main_v0) (V c main_arg3) (row1 (V c main_v1)) (j 0)) (j 1) := by
  refine (dat0 V c).arrAt_eq_of_covers 8 _ (by decide +kernel) fun t _ y => ?_
  blk_simp
  rw [after0_8]
  unfold outsAt0
  dsimp only
  refine ((congrArg _ (eq_ix2 y)).trans (out8_at c (grid0.coords t) _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (y 0) (y 1))).trans (point8 V c t y _ ?_ ?_)
  all_goals (blk_simp [idx t] <;> try omega)

theorem point10 (c : Dev nD) (t : Fin cfg0.N) (y : S256x128.Idx) (j : (⟨2, ![4096, 128]⟩ : Shape).Idx)
    (h0 : (j 0 : ℕ) = t.val * 256 + y 0) (h1 : (j 1 : ℕ) = y 1) : codes (hB (iblk0 V c 0 t) (iblk0 V c 1 t) (iblk0 V c 2 t) (iblk0 V c 3 t) (iblk0 V c 4 t) (iblk0 V c 5 t) ((grid0.coords t) 0).val (y 0)) (y 1) = codes (hRow (V c main_v0) (V c main_arg3) (row1 (V c main_v1)) (V c main_arg5) (V c main_arg6) (V c main_arg9) (j 0)) (j 1) := by
  have e : (y 1 : Fin 128) = j 1 := Fin.ext h1.symm
  rw [hB_eq V c t (y 0) (j 0) h0]
  exact congrArg _ e

/-- Result array of window 10. -/
theorem final10 (c : Dev nD) : (dat0 V c).arrAt 10 cfg0.N = fun j => codes (hRow (V c main_v0) (V c main_arg3) (row1 (V c main_v1)) (V c main_arg5) (V c main_arg6) (V c main_arg9) (j 0)) (j 1) := by
  refine (dat0 V c).arrAt_eq_of_covers 10 _ (by decide +kernel) fun t _ y => ?_
  blk_simp
  rw [after0_10]
  unfold outsAt0
  dsimp only
  refine ((congrArg _ (eq_ix2 y)).trans (out10_at c (grid0.coords t) _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (y 0) (y 1))).trans (point10 V c t y _ ?_ ?_)
  all_goals (blk_simp [idx t] <;> try omega)

theorem point12 (c : Dev nD) (t : Fin cfg0.N) (y : S256x128.Idx) (j : (⟨2, ![4096, 128]⟩ : Shape).Idx)
    (h0 : (j 0 : ℕ) = t.val * 256 + y 0) (h1 : (j 1 : ℕ) = y 1) : rowScale (xB (iblk0 V c 1 t) (y 0)) = rowScale (xRow (V c main_v0) (j 0)) := by
  have e : (y 1 : Fin 128) = j 1 := Fin.ext h1.symm
  rw [xB_eq V c t (y 0) (j 0) h0]

/-- Result array of window 12. -/
theorem final12 (c : Dev nD) : (dat0 V c).arrAt 12 cfg0.N = fun j => rowScale (xRow (V c main_v0) (j 0)) := by
  refine (dat0 V c).arrAt_eq_of_covers 12 _ (by decide +kernel) fun t _ y => ?_
  blk_simp
  rw [after0_12]
  unfold outsAt0
  dsimp only
  refine ((congrArg _ (eq_ix2 y)).trans (out12_at c (grid0.coords t) _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (y 0) (y 1))).trans (point12 V c t y _ ?_ ?_)
  all_goals (blk_simp [idx t] <;> try omega)

theorem point13 (c : Dev nD) (t : Fin cfg0.N) (y : S256x128.Idx) (j : (⟨2, ![4096, 128]⟩ : Shape).Idx)
    (h0 : (j 0 : ℕ) = t.val * 256 + y 0) (h1 : (j 1 : ℕ) = y 1) : rowScale (hB (iblk0 V c 0 t) (iblk0 V c 1 t) (iblk0 V c 2 t) (iblk0 V c 3 t) (iblk0 V c 4 t) (iblk0 V c 5 t) ((grid0.coords t) 0).val (y 0)) = rowScale (hRow (V c main_v0) (V c main_arg3) (row1 (V c main_v1)) (V c main_arg5) (V c main_arg6) (V c main_arg9) (j 0)) := by
  have e : (y 1 : Fin 128) = j 1 := Fin.ext h1.symm
  rw [hB_eq V c t (y 0) (j 0) h0]

/-- Result array of window 13. -/
theorem final13 (c : Dev nD) : (dat0 V c).arrAt 13 cfg0.N = fun j => rowScale (hRow (V c main_v0) (V c main_arg3) (row1 (V c main_v1)) (V c main_arg5) (V c main_arg6) (V c main_arg9) (j 0)) := by
  refine (dat0 V c).arrAt_eq_of_covers 13 _ (by decide +kernel) fun t _ y => ?_
  blk_simp
  rw [after0_13]
  unfold outsAt0
  dsimp only
  refine ((congrArg _ (eq_ix2 y)).trans (out13_at c (grid0.coords t) _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (y 0) (y 1))).trans (point13 V c t y _ ?_ ?_)
  all_goals (blk_simp [idx t] <;> try omega)

theorem scale_row (y : S2x2048.Idx) (h : ((grid0.coords (pointOf y)) 0).val < 16) :
    y = ix2 ⟨((grid0.coords (pointOf y)) 0).val / 8, by omega⟩
      ⟨256 * (((grid0.coords (pointOf y)) 0).val % 8) + (⟨(y 1).val % 256, Nat.mod_lt _ (by omega)⟩ : Fin 256).val, by
        show 256 * (((grid0.coords (pointOf y)) 0).val % 8) + (y 1).val % 256 < 2048
        omega⟩ := by
  have h0 : (y 0).val < 2 := (y 0).isLt
  have h1 : (y 1).val < 2048 := (y 1).isLt
  have e : ((grid0.coords (pointOf y)) 0).val = 8 * (y 0).val + (y 1).val / 256 := coord (pointOf y)
  refine funext fun a => Fin.ext ?_
  fin_cases a
  · show (y 0).val = ((grid0.coords (pointOf y)) 0).val / 8
    omega
  · show (y 1).val = 256 * (((grid0.coords (pointOf y)) 0).val % 8) + (y 1).val % 256
    omega

theorem row_of (y : S2x2048.Idx) : (rowOf y).val = (pointOf y).val * 256 + (⟨(y 1).val % 256, Nat.mod_lt _ (by omega)⟩ : Fin 256).val := by
  have h0 : (y 0).val < 2 := (y 0).isLt
  have h1 : (y 1).val < 2048 := (y 1).isLt
  show 2048 * (y 0).val + (y 1).val = (8 * (y 0).val + (y 1).val / 256) * 256 + (y 1).val % 256
  omega

theorem scales7_at (c : Dev nD) (y : S2x2048.Idx) : scales7 V c y = rowScale (xRow (V c main_v0) (rowOf y)) := by
  have hc : ((grid0.coords (pointOf y)) 0).val < 16 := (coord (pointOf y)).trans_lt (pointOf y).isLt
  unfold scales7 outsAt0
  dsimp only
  refine ((congrArg _ (scale_row y hc)).trans (out7_at c (grid0.coords (pointOf y)) _ _ _ _ _ _ _ _ _ _ _ _ _ _ _ _ _ _ _ _ _ _ _ _ _ _ _ _ _ _ (iblk0 V c 0 (pointOf y)) (iblk0 V c 1 (pointOf y)) (iblk0 V c 2 (pointOf y)) (iblk0 V c 3 (pointOf y)) (iblk0 V c 4 (pointOf y)) (iblk0 V c 5 (pointOf y)) ⟨(y 1).val % 256, Nat.mod_lt _ (by omega)⟩ hc)).trans ?_
  rw [xB_eq V c (pointOf y) _ (rowOf y) (row_of y)]

/-- Result array of window 7. -/
theorem final7 (c : Dev nD) : (dat0 V c).arrAt 7 cfg0.N = fun y => rowScale (xRow (V c main_v0) (rowOf y)) := by
  refine (dat0 V c).arrAt_eq_of_covers 7 _ (by decide +kernel) fun t _ y => ?_
  blk_simp
  rw [after0_7]
  refine (scales7_at V c y).trans ?_
  have a0 : (((cfg0.win 7).blk t).view.emb y 0 : ℕ) = (y 0 : ℕ) := by blk_simp [idx t] <;> try omega
  have a1 : (((cfg0.win 7).blk t).view.emb y 1 : ℕ) = (y 1 : ℕ) := by blk_simp [idx t] <;> try omega
  refine congrArg (fun i => rowScale (xRow (V c main_v0) i)) (Fin.ext ?_)
  exact (congrArg₂ (fun a b : ℕ => 2048 * a + b) a0 a1).symm

theorem scales9_at (c : Dev nD) (y : S2x2048.Idx) : scales9 V c y = zScale (zRow (V c main_v0) (V c main_arg3) (row1 (V c main_v1)) (rowOf y)) := by
  have hc : ((grid0.coords (pointOf y)) 0).val < 16 := (coord (pointOf y)).trans_lt (pointOf y).isLt
  unfold scales9 outsAt0
  dsimp only
  refine ((congrArg _ (scale_row y hc)).trans (out9_at c (grid0.coords (pointOf y)) _ _ _ _ _ _ _ _ _ _ _ _ _ _ _ _ _ _ _ _ _ _ _ _ _ _ _ _ _ _ (iblk0 V c 0 (pointOf y)) (iblk0 V c 1 (pointOf y)) (iblk0 V c 2 (pointOf y)) (iblk0 V c 3 (pointOf y)) (iblk0 V c 4 (pointOf y)) (iblk0 V c 5 (pointOf y)) ⟨(y 1).val % 256, Nat.mod_lt _ (by omega)⟩ hc)).trans ?_
  rw [zB_eq V c (pointOf y) _ (rowOf y) (row_of y)]

/-- Result array of window 9. -/
theorem final9 (c : Dev nD) : (dat0 V c).arrAt 9 cfg0.N = fun y => zScale (zRow (V c main_v0) (V c main_arg3) (row1 (V c main_v1)) (rowOf y)) := by
  refine (dat0 V c).arrAt_eq_of_covers 9 _ (by decide +kernel) fun t _ y => ?_
  blk_simp
  rw [after0_9]
  refine (scales9_at V c y).trans ?_
  have a0 : (((cfg0.win 9).blk t).view.emb y 0 : ℕ) = (y 0 : ℕ) := by blk_simp [idx t] <;> try omega
  have a1 : (((cfg0.win 9).blk t).view.emb y 1 : ℕ) = (y 1 : ℕ) := by blk_simp [idx t] <;> try omega
  refine congrArg (fun i => zScale (zRow (V c main_v0) (V c main_arg3) (row1 (V c main_v1)) i)) (Fin.ext ?_)
  exact (congrArg₂ (fun a b : ℕ => 2048 * a + b) a0 a1).symm

theorem scales11_at (c : Dev nD) (y : S2x2048.Idx) : scales11 V c y = rowScale (hRow (V c main_v0) (V c main_arg3) (row1 (V c main_v1)) (V c main_arg5) (V c main_arg6) (V c main_arg9) (rowOf y)) := by
  have hc : ((grid0.coords (pointOf y)) 0).val < 16 := (coord (pointOf y)).trans_lt (pointOf y).isLt
  unfold scales11 outsAt0
  dsimp only
  refine ((congrArg _ (scale_row y hc)).trans (out11_at c (grid0.coords (pointOf y)) _ _ _ _ _ _ _ _ _ _ _ _ _ _ _ _ _ _ _ _ _ _ _ _ _ _ _ _ _ _ (iblk0 V c 0 (pointOf y)) (iblk0 V c 1 (pointOf y)) (iblk0 V c 2 (pointOf y)) (iblk0 V c 3 (pointOf y)) (iblk0 V c 4 (pointOf y)) (iblk0 V c 5 (pointOf y)) ⟨(y 1).val % 256, Nat.mod_lt _ (by omega)⟩ hc)).trans ?_
  rw [hB_eq V c (pointOf y) _ (rowOf y) (row_of y)]

/-- Result array of window 11. -/
theorem final11 (c : Dev nD) : (dat0 V c).arrAt 11 cfg0.N = fun y => rowScale (hRow (V c main_v0) (V c main_arg3) (row1 (V c main_v1)) (V c main_arg5) (V c main_arg6) (V c main_arg9) (rowOf y)) := by
  refine (dat0 V c).arrAt_eq_of_covers 11 _ (by decide +kernel) fun t _ y => ?_
  blk_simp
  rw [after0_11]
  refine (scales11_at V c y).trans ?_
  have a0 : (((cfg0.win 11).blk t).view.emb y 0 : ℕ) = (y 0 : ℕ) := by blk_simp [idx t] <;> try omega
  have a1 : (((cfg0.win 11).blk t).view.emb y 1 : ℕ) = (y 1 : ℕ) := by blk_simp [idx t] <;> try omega
  refine congrArg (fun i => rowScale (hRow (V c main_v0) (V c main_arg3) (row1 (V c main_v1)) (V c main_arg5) (V c main_arg6) (V c main_arg9) i)) (Fin.ext ?_)
  exact (congrArg₂ (fun a b : ℕ => 2048 * a + b) a0 a1).symm

end Cert.Proof.Prep

end
-- ==== Proof.MainBlock.lean ====
module

public import proofs.«01_k».proof.Proof.MainBody
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Proof.Main

open Cert.KernelIdeal Cert.KernelIdeal.Gen

/-- What one grid point leaves at row `i`, column `j` of its block. -/
def blockAt (x0 : FVec Ideal S4096x7168 .fp8e4m3) (x1 : FVec Ideal S4096x128 .fp8e4m3)
    (x2 x3 : FVec Ideal S4096x128 .f32) (x4 : FVec Ideal S7168x512 .fp8e4m3) (x5 : FVec Ideal S1x512 .f32)
    (x6 : FVec Ideal S128x512 .fp8e4m3) (x7 : FVec Ideal S1x512 .f32) (i : Fin 4096) (j : Fin 512) : EReal :=
  (∑ d : Fin 7168, (x0 (ix2 i d) : EReal) * x4 (ix2 d j)) * x2 (ix2 i ⟨j % 128, by omega⟩) * x5 (ix2 0 j)
    + (∑ r : Fin 128, (x1 (ix2 i r) : EReal) * x6 (ix2 r j)) * x3 (ix2 i ⟨j % 128, by omega⟩) * x7 (ix2 0 j)

/-- The row and column offsets of trip `k`'s loads and stores. -/
theorem offs : ∀ k : Fin k1_t1_loop.trips, k1_off1 k = ![1024 * k.val, 0] ∧ k1_off2 k = ![1024 * k.val, 0] ∧
    k1_off3 k = ![1024 * k.val, 0] ∧ k1_off4 k = ![1024 * k.val, 128] ∧ k1_off5 k = ![1024 * k.val, 256] ∧
    k1_off6 k = ![1024 * k.val, 384] := by decide +kernel

section Strips

variable (x0 : FVec Ideal S4096x7168 .fp8e4m3) (x1 : FVec Ideal S4096x128 .fp8e4m3)
  (x2 x3 : FVec Ideal S4096x128 .f32) (x4 : FVec Ideal S7168x512 .fp8e4m3) (x5 : FVec Ideal S1x512 .f32)
  (x6 : FVec Ideal S128x512 .fp8e4m3) (x7 : FVec Ideal S1x512 .f32)
  (v8 : FVec Ideal S1024x7168 .fp8e4m3) (v12 : FVec Ideal S1024x128 .fp8e4m3) (v16 v19 : FVec Ideal S1024x128 .f32)
  (k : ℕ) (hk : k < 4)
  (h8 : ∀ (i : Fin 1024) d, v8 (ix2 i d) = x0 (ix2 ⟨1024 * k + i, by omega⟩ d))
  (h12 : ∀ (i : Fin 1024) d, v12 (ix2 i d) = x1 (ix2 ⟨1024 * k + i, by omega⟩ d))
  (h16 : ∀ (i : Fin 1024) d, v16 (ix2 i d) = x2 (ix2 ⟨1024 * k + i, by omega⟩ d))
  (h19 : ∀ (i : Fin 1024) d, v19 (ix2 i d) = x3 (ix2 ⟨1024 * k + i, by omega⟩ d))
include h8 h12 h16 h19

/-- The strip of lanes from 0: the value it stores at local row `i`, lane `j`. -/
theorem strip0 (i : Fin 1024) (j : Fin 128) :
    (k1_pay9 (k1_pay1 x5) (k1_pay2 x7) v8 x4 v12 x6 v16 v19 : FVec Ideal S1024x128 .bf16) (ix2 i j)
      = blockAt x0 x1 x2 x3 x4 x5 x6 x7 ⟨1024 * k + i, by omega⟩ ⟨0 + j, by omega⟩ := by
  have hj : (⟨(0 + j : ℕ) % 128, by omega⟩ : Fin 128) = j := Fin.ext (by show (0 + j : ℕ) % 128 = j; omega)
  unfold blockAt
  simp only [hj, ← h8, ← h12, ← h16, ← h19]
  pointwise [k1_pay9, k1_pay5, k1_pay6, k1_pay7, k1_pay8, k1_pay1, k1_pay2]

/-- The strip of lanes from 128: the value it stores at local row `i`, lane `j`. -/
theorem strip1 (i : Fin 1024) (j : Fin 128) :
    (k1_pay10 (k1_pay1 x5) (k1_pay2 x7) v8 x4 v12 x6 v16 v19 : FVec Ideal S1024x128 .bf16) (ix2 i j)
      = blockAt x0 x1 x2 x3 x4 x5 x6 x7 ⟨1024 * k + i, by omega⟩ ⟨128 + j, by omega⟩ := by
  have hj : (⟨(128 + j : ℕ) % 128, by omega⟩ : Fin 128) = j := Fin.ext (by show (128 + j : ℕ) % 128 = j; omega)
  unfold blockAt
  simp only [hj, ← h8, ← h12, ← h16, ← h19]
  pointwise [k1_pay10, k1_pay5, k1_pay6, k1_pay7, k1_pay8, k1_pay1, k1_pay2]

/-- The strip of lanes from 256: the value it stores at local row `i`, lane `j`. -/
theorem strip2 (i : Fin 1024) (j : Fin 128) :
    (k1_pay3 x5 x7 (k1_pay5 v8 x4) (k1_pay6 v12 x6) (k1_pay7 v16) (k1_pay8 v19) : FVec Ideal S1024x128 .bf16) (ix2 i j)
      = blockAt x0 x1 x2 x3 x4 x5 x6 x7 ⟨1024 * k + i, by omega⟩ ⟨256 + j, by omega⟩ := by
  have hj : (⟨(256 + j : ℕ) % 128, by omega⟩ : Fin 128) = j := Fin.ext (by show (256 + j : ℕ) % 128 = j; omega)
  unfold blockAt
  simp only [hj, ← h8, ← h12, ← h16, ← h19]
  pointwise [k1_pay3, k1_pay5, k1_pay6, k1_pay7, k1_pay8, k1_pay1, k1_pay2]

/-- The strip of lanes from 384: the value it stores at local row `i`, lane `j`. -/
theorem strip3 (i : Fin 1024) (j : Fin 128) :
    (k1_pay4 x5 x7 (k1_pay5 v8 x4) (k1_pay6 v12 x6) (k1_pay7 v16) (k1_pay8 v19) : FVec Ideal S1024x128 .bf16) (ix2 i j)
      = blockAt x0 x1 x2 x3 x4 x5 x6 x7 ⟨1024 * k + i, by omega⟩ ⟨384 + j, by omega⟩ := by
  have hj : (⟨(384 + j : ℕ) % 128, by omega⟩ : Fin 128) = j := Fin.ext (by show (384 + j : ℕ) % 128 = j; omega)
  unfold blockAt
  simp only [hj, ← h8, ← h12, ← h16, ← h19]
  pointwise [k1_pay4, k1_pay5, k1_pay6, k1_pay7, k1_pay8, k1_pay1, k1_pay2]

end Strips

section Reads

variable {N M n m : ℕ} {e : EltTy} (A : Memref sig .tc .vmem ⟨2, ![N, M]⟩ e) (hA : A.IsWhole)
  (X : Vec Ideal ⟨2, ![N, M]⟩ e)

/-- Reading `n` rows from row `b` on of a whole buffer holding `X`. -/
theorem read_rows (off : Fin 2 → ℕ) (b : ℕ) (ho : off = ![b, 0])
    (inb : ∀ a, off a + (![n, m] : Fin 2 → ℕ) a ≤ (![N, M] : Fin 2 → ℕ) a) (i : Fin n) (d : Fin m)
    (hi : b + i < N) (hd : (d : ℕ) < M) :
    View.readAt (Elt Ideal) A.view (Rect.unit (s := ⟨2, ![N, M]⟩) off ![n, m] inb).toLoadRect (hA.unread X) (ix2 i d)
      = X (ix2 ⟨b + i, hi⟩ ⟨d, hd⟩) := by
  subst ho
  refine (Memref.IsWhole.readAt_unread hA _ _ _).trans (congrArg X (funext fun a => Fin.ext ?_))
  fin_cases a
  · show b + 1 * (i : ℕ) = b + i
    omega
  · show 0 + 1 * (d : ℕ) = d
    omega

/-- Reading the whole of a buffer holding `X`. -/
theorem read_whole (inb : ∀ a, (![0, 0] : Fin 2 → ℕ) a + (![N, M] : Fin 2 → ℕ) a ≤ (![N, M] : Fin 2 → ℕ) a) :
    View.readAt (Elt Ideal) A.view (Rect.unit (s := ⟨2, ![N, M]⟩) ![0, 0] ![N, M] inb).toLoadRect (hA.unread X) = X := by
  funext x
  refine (Memref.IsWhole.readAt_unread hA _ _ _).trans (congrArg X (funext fun a => Fin.ext ?_))
  fin_cases a
  · show 0 + 1 * (x 0 : ℕ) = x 0
    omega
  · show 0 + 1 * (x 1 : ℕ) = x 1
    omega

end Reads

/-- An index of a two-axis access of unit stride, coordinate by coordinate. -/
theorem emb_at {N M n m : ℕ} (off : Fin 2 → ℕ) (b o : ℕ) (ho : off = ![b, o])
    (inb : ∀ a, off a + (![n, m] : Fin 2 → ℕ) a ≤ (![N, M] : Fin 2 → ℕ) a) (i : Fin n) (j : Fin m)
    (hi : b + i < N) (hj : o + j < M) :
    (Rect.unit (s := ⟨2, ![N, M]⟩) off ![n, m] inb).emb (ix2 i j) = ix2 ⟨b + i, hi⟩ ⟨o + j, hj⟩ := by
  subst ho
  refine funext fun a => Fin.ext ?_
  fin_cases a
  · show b + 1 * (i : ℕ) = b + i
    omega
  · show o + 1 * (j : ℕ) = o + j
    omega

/-- A store at rows from `1024 k`, lanes from `o`, whose payload is `blockAt` there, agrees with `blockAt` at every place. -/
theorem piece_at (x0 : Vec Ideal S4096x7168 .fp8e4m3) (x1 : Vec Ideal S4096x128 .fp8e4m3) (x2 : Vec Ideal S4096x128 .f32) (x3 : Vec Ideal S4096x128 .f32) (x4 : Vec Ideal S7168x512 .fp8e4m3) (x5 : Vec Ideal S1x512 .f32) (x6 : Vec Ideal S128x512 .fp8e4m3) (x7 : Vec Ideal S1x512 .f32)
    (k : ℕ) (hk : k < 4) (off : Fin 2 → ℕ) (o : ℕ) (ho' : o + 128 ≤ 512) (ho : off = ![1024 * k, o])
    (inb : ∀ a, off a + S1024x128.size a ≤ S4096x512.size a) (pay : FVec Ideal S1024x128 .bf16)
    (h : ∀ (i : Fin 1024) (j : Fin 128), pay (ix2 i j)
      = blockAt x0 x1 x2 x3 x4 x5 x6 x7 ⟨1024 * k + i, by omega⟩ ⟨o + j, by omega⟩) (x : S1024x128.Idx) :
    pay x = blockAt x0 x1 x2 x3 x4 x5 x6 x7 ((Rect.unit (s := S4096x512) off S1024x128.size inb).emb x 0)
      ((Rect.unit (s := S4096x512) off S1024x128.size inb).emb x 1) := by
  have e := emb_at (N := 4096) (M := 512) (n := 1024) (m := 128) off (1024 * k) o ho inb (x 0) (x 1)
      (by have h0 : (x 0 : ℕ) < 1024 := (x 0).isLt; omega) (by have h1 : (x 1 : ℕ) < 128 := (x 1).isLt; omega)
  have ex : x = ix2 (n0 := 1024) (n1 := 128) (x 0) (x 1) := eq_ix2 x
  rw [← ex] at e
  have e0 := congrFun e 0
  have e1 := congrFun e 1
  refine Eq.trans ?_ (congrArg₂ (blockAt x0 x1 x2 x3 x4 x5 x6 x7) e0.symm e1.symm)
  exact (congrArg pay ex).trans (h (x 0) (x 1))

section Trip

variable (𝒱 : Variants) (c : Dev nD) (bd : Option 𝒱.V) (i : grid1.Coords) (arg1 : Memref sig .tc .vmem S4096x7168 .fp8e4m3) (harg1 : arg1.IsWhole) (arg2 : Memref sig .tc .vmem S4096x128 .fp8e4m3) (harg2 : arg2.IsWhole) (arg3 : Memref sig .tc .vmem S4096x128 .f32) (harg3 : arg3.IsWhole) (arg4 : Memref sig .tc .vmem S4096x128 .f32) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S128x512 .fp8e4m3) (harg7 : arg7.IsWhole) (arg8 : Memref sig .tc .vmem S1x512 .f32) (harg8 : arg8.IsWhole) (arg9 : Memref sig .tc .vmem S4096x512 .bf16) (harg9 : arg9.IsWhole)
  (x0 : Vec Ideal S4096x7168 .fp8e4m3) (x1 : Vec Ideal S4096x128 .fp8e4m3) (x2 : Vec Ideal S4096x128 .f32) (x3 : Vec Ideal S4096x128 .f32) (x4 : Vec Ideal S7168x512 .fp8e4m3) (x5 : Vec Ideal S1x512 .f32) (x6 : Vec Ideal S128x512 .fp8e4m3) (x7 : Vec Ideal S1x512 .f32)

/-- Every store of trip `k` agrees with `blockAt` at the place it stores to. -/
theorem trip_pieces (k : Fin k1_t1_loop.trips) :
    ∀ p ∈ tripL_k1_t1 (F := Ideal) 𝒱 c bd i arg1 harg1 arg2 harg2 arg3 harg3 arg4 harg4 arg5 harg5 arg6 harg6 arg7 harg7 arg8 harg8 arg9 harg9 x5 x7 (harg1.unread x0) (harg2.unread x1) (harg3.unread x2) (harg4.unread x3) (harg5.unread x4) (harg7.unread x6) k,
      ∀ x : p.1.shape.Idx, p.2 x = blockAt x0 x1 x2 x3 x4 x5 x6 x7 (p.1.emb x 0) (p.1.emb x 1) := by
  have hk : k.val < 4 := Nat.lt_of_lt_of_le k.isLt k1_t1_abs.2.1
  obtain ⟨o1, o2, o3, o4, o5, o6⟩ := offs k
  have h8 := fun (i : Fin 1024) (d : Fin 7168) =>
    read_rows arg1 harg1 x0 (k1_off1 k) (1024 * k.val) o1 (k1_off1_inb k) i d (by omega) d.isLt
  have h12 := fun (i : Fin 1024) (d : Fin 128) =>
    read_rows arg2 harg2 x1 (k1_off2 k) (1024 * k.val) o2 (k1_off2_inb k) i d (by omega) d.isLt
  have h16 := fun (i : Fin 1024) (d : Fin 128) =>
    read_rows arg3 harg3 x2 (k1_off2 k) (1024 * k.val) o2 (k1_off2_inb k) i d (by omega) d.isLt
  have h19 := fun (i : Fin 1024) (d : Fin 128) =>
    read_rows arg4 harg4 x3 (k1_off2 k) (1024 * k.val) o2 (k1_off2_inb k) i d (by omega) d.isLt
  have h9 := read_whole arg5 harg5 x4 inb_S7168x512_S7168x512_0_0
  have h13 := read_whole arg7 harg7 x6 inb_S128x512_S128x512_0_0
  unfold tripL_k1_t1 trip_k1_t1
  sl_unfold_run_names
  intro p hp
  simp only [List.mem_cons, List.not_mem_nil, or_false] at hp
  rcases hp with rfl | rfl | rfl | rfl <;> intro x
  · refine piece_at x0 x1 x2 x3 x4 x5 x6 x7 k.val hk _ 384 (by norm_num) o6 (k1_off6_inb k) _ (fun i j => ?_) x
    rw [h9, h13]
    exact strip3 x0 x1 x2 x3 x4 x5 x6 x7 _ _ _ _ k.val hk h8 h12 h16 h19 i j
  · refine piece_at x0 x1 x2 x3 x4 x5 x6 x7 k.val hk _ 256 (by norm_num) o5 (k1_off5_inb k) _ (fun i j => ?_) x
    rw [h9, h13]
    exact strip2 x0 x1 x2 x3 x4 x5 x6 x7 _ _ _ _ k.val hk h8 h12 h16 h19 i j
  · refine piece_at x0 x1 x2 x3 x4 x5 x6 x7 k.val hk _ 128 (by norm_num) o4 (k1_off4_inb k) _ (fun i j => ?_) x
    rw [h9, h13]
    exact strip1 x0 x1 x2 x3 x4 x5 x6 x7 _ _ _ _ k.val hk h8 h12 h16 h19 i j
  · refine piece_at x0 x1 x2 x3 x4 x5 x6 x7 k.val hk _ 0 (by norm_num) o3 (k1_off3_inb k) _ (fun i j => ?_) x
    rw [h9, h13]
    exact strip0 x0 x1 x2 x3 x4 x5 x6 x7 _ _ _ _ k.val hk h8 h12 h16 h19 i j

/-- So do the stores of the trips before any `n`. -/
theorem trips_pieces : ∀ n : ℕ, ∀ p ∈ pb_k1_t1 (F := Ideal) 𝒱 c bd i arg1 harg1 arg2 harg2 arg3 harg3 arg4 harg4 arg5 harg5 arg6 harg6 arg7 harg7 arg8 harg8 arg9 harg9 x5 x7 (harg1.unread x0) (harg2.unread x1) (harg3.unread x2) (harg4.unread x3) (harg5.unread x4) (harg7.unread x6) n,
      ∀ x : p.1.shape.Idx, p.2 x = blockAt x0 x1 x2 x3 x4 x5 x6 x7 (p.1.emb x 0) (p.1.emb x 1)
  | 0, p, hp => by simp [pb_k1_t1] at hp
  | n + 1, p, hp => by
    rw [pb_k1_t1.eq_2] at hp
    unfold pb_k1_t1Step at hp
    split at hp
    · rcases List.mem_append.mp hp with hp | hp
      · exact trip_pieces _ _ _ _ _ _ _ _ _ _ _ _ _ _ _ _ _ _ _ _ _ _ _ _ _ _ _ _ _ _ _ p hp
      · exact trips_pieces n p hp
    · exact trips_pieces n p hp

/-- The same with the two scale rows as loaded. -/
theorem trips_pieces_of (v0 v2 : Vec Ideal S1x512 .f32) (h0 : v0 = x5) (h2 : v2 = x7) (n : ℕ) :
    ∀ p ∈ pb_k1_t1 (F := Ideal) 𝒱 c bd i arg1 harg1 arg2 harg2 arg3 harg3 arg4 harg4 arg5 harg5 arg6 harg6 arg7 harg7 arg8 harg8 arg9 harg9 v0 v2 (harg1.unread x0) (harg2.unread x1) (harg3.unread x2) (harg4.unread x3) (harg5.unread x4) (harg7.unread x6) n,
      ∀ x : p.1.shape.Idx, p.2 x = blockAt x0 x1 x2 x3 x4 x5 x6 x7 (p.1.emb x 0) (p.1.emb x 1) := by
  subst h0 h2
  exact trips_pieces 𝒱 c bd i arg1 harg1 arg2 harg2 arg3 harg3 arg4 harg4 arg5 harg5 arg6 harg6 arg7 harg7 arg8 harg8 arg9 harg9 x0 x1 x2 x3 x4 v0 x6 v2 n

end Trip

/-- The whole body's stores are those of the trips of its loop. -/
theorem run_list (c : Dev nD) (i : grid1.Coords) (arg1 : Memref sig .tc .vmem S4096x7168 .fp8e4m3) (harg1 : arg1.IsWhole) (arg2 : Memref sig .tc .vmem S4096x128 .fp8e4m3) (harg2 : arg2.IsWhole) (arg3 : Memref sig .tc .vmem S4096x128 .f32) (harg3 : arg3.IsWhole) (arg4 : Memref sig .tc .vmem S4096x128 .f32) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S128x512 .fp8e4m3) (harg7 : arg7.IsWhole) (arg8 : Memref sig .tc .vmem S1x512 .f32) (harg8 : arg8.IsWhole) (arg9 : Memref sig .tc .vmem S4096x512 .bf16) (harg9 : arg9.IsWhole)
  (x0 : Vec Ideal S4096x7168 .fp8e4m3) (x1 : Vec Ideal S4096x128 .fp8e4m3) (x2 : Vec Ideal S4096x128 .f32) (x3 : Vec Ideal S4096x128 .f32) (x4 : Vec Ideal S7168x512 .fp8e4m3) (x5 : Vec Ideal S1x512 .f32) (x6 : Vec Ideal S128x512 .fp8e4m3) (x7 : Vec Ideal S1x512 .f32) :
    (kernelRun1_A (F := Ideal) c i arg1 harg1 arg2 harg2 arg3 harg3 arg4 harg4 arg5 harg5 arg6 harg6 arg7 harg7 arg8 harg8 arg9 harg9 x0 x1 x2 x3 x4 x5 x6 x7).1 = pb_k1_t1 (F := Ideal) Variants.none c none i arg1 harg1 arg2 harg2 arg3 harg3 arg4 harg4 arg5 harg5 arg6 harg6 arg7 harg7 arg8 harg8 arg9 harg9
      (View.readAt (Elt Ideal) arg6.view (Rect.unit (s := S1x512) ![0, 0] S1x512.size inb_S1x512_S1x512_0_0).toLoadRect (harg6.unread x5))
      (View.readAt (Elt Ideal) arg8.view (Rect.unit (s := S1x512) ![0, 0] S1x512.size inb_S1x512_S1x512_0_0).toLoadRect (harg8.unread x7))
      (harg1.unread x0) (harg2.unread x1) (harg3.unread x2) (harg4.unread x3) (harg5.unread x4) (harg7.unread x6)
      (Scf.trips k1_t1_loop.lb k1_t1_loop.ub k1_t1_loop.st) := rfl

/-- So each of them agrees with `blockAt` at the place it stores to. -/
theorem run_pieces (c : Dev nD) (i : grid1.Coords) (arg1 : Memref sig .tc .vmem S4096x7168 .fp8e4m3) (harg1 : arg1.IsWhole) (arg2 : Memref sig .tc .vmem S4096x128 .fp8e4m3) (harg2 : arg2.IsWhole) (arg3 : Memref sig .tc .vmem S4096x128 .f32) (harg3 : arg3.IsWhole) (arg4 : Memref sig .tc .vmem S4096x128 .f32) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S128x512 .fp8e4m3) (harg7 : arg7.IsWhole) (arg8 : Memref sig .tc .vmem S1x512 .f32) (harg8 : arg8.IsWhole) (arg9 : Memref sig .tc .vmem S4096x512 .bf16) (harg9 : arg9.IsWhole)
  (x0 : Vec Ideal S4096x7168 .fp8e4m3) (x1 : Vec Ideal S4096x128 .fp8e4m3) (x2 : Vec Ideal S4096x128 .f32) (x3 : Vec Ideal S4096x128 .f32) (x4 : Vec Ideal S7168x512 .fp8e4m3) (x5 : Vec Ideal S1x512 .f32) (x6 : Vec Ideal S128x512 .fp8e4m3) (x7 : Vec Ideal S1x512 .f32) :
    ∀ p ∈ (kernelRun1_A (F := Ideal) c i arg1 harg1 arg2 harg2 arg3 harg3 arg4 harg4 arg5 harg5 arg6 harg6 arg7 harg7 arg8 harg8 arg9 harg9 x0 x1 x2 x3 x4 x5 x6 x7).1,
      ∀ x : p.1.shape.Idx, p.2 x = blockAt x0 x1 x2 x3 x4 x5 x6 x7 (p.1.emb x 0) (p.1.emb x 1) := by
  rw [run_list]
  exact trips_pieces_of Variants.none c none i arg1 harg1 arg2 harg2 arg3 harg3 arg4 harg4 arg5 harg5 arg6 harg6 arg7 harg7 arg8 harg8 arg9 harg9 x0 x1 x2 x3 x4 x5 x6 x7 _ _
    (read_whole arg6 harg6 x5 inb_S1x512_S1x512_0_0) (read_whole arg8 harg8 x7 inb_S1x512_S1x512_0_0) _

/-- What the body leaves in the result's staging buffer is `blockAt` of the input blocks, at every index. -/
theorem out_at (c : Dev nD) (i : grid1.Coords) (arg1 : Memref sig .tc .vmem S4096x7168 .fp8e4m3) (harg1 : arg1.IsWhole) (arg2 : Memref sig .tc .vmem S4096x128 .fp8e4m3) (harg2 : arg2.IsWhole) (arg3 : Memref sig .tc .vmem S4096x128 .f32) (harg3 : arg3.IsWhole) (arg4 : Memref sig .tc .vmem S4096x128 .f32) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S128x512 .fp8e4m3) (harg7 : arg7.IsWhole) (arg8 : Memref sig .tc .vmem S1x512 .f32) (harg8 : arg8.IsWhole) (arg9 : Memref sig .tc .vmem S4096x512 .bf16) (harg9 : arg9.IsWhole)
  (x0 : Vec Ideal S4096x7168 .fp8e4m3) (x1 : Vec Ideal S4096x128 .fp8e4m3) (x2 : Vec Ideal S4096x128 .f32) (x3 : Vec Ideal S4096x128 .f32) (x4 : Vec Ideal S7168x512 .fp8e4m3) (x5 : Vec Ideal S1x512 .f32) (x6 : Vec Ideal S128x512 .fp8e4m3) (x7 : Vec Ideal S1x512 .f32) (y : S4096x512.Idx) :
    out1_A_8 (F := Ideal) c i arg1 harg1 arg2 harg2 arg3 harg3 arg4 harg4 arg5 harg5 arg6 harg6 arg7 harg7 arg8 harg8 arg9 harg9 x0 x1 x2 x3 x4 x5 x6 x7 y
      = blockAt x0 x1 x2 x3 x4 x5 x6 x7 (y 0) (y 1) := by
  unfold out1_A_8
  rw [View.read_writes_junk_eq_canon]
  exact View.canon_apply_of_pieces (fun z => blockAt x0 x1 x2 x3 x4 x5 x6 x7 (z 0) (z 1)) _
    (run_pieces c i arg1 harg1 arg2 harg2 arg3 harg3 arg4 harg4 arg5 harg5 arg6 harg6 arg7 harg7 arg8 harg8 arg9 harg9 x0 x1 x2 x3 x4 x5 x6 x7) y
    (cover1_A_8 (F := Ideal) c i arg1 harg1 arg2 harg2 arg3 harg3 arg4 harg4 arg5 harg5 arg6 harg6 arg7 harg7 arg8 harg8 arg9 harg9 x0 x1 x2 x3 x4 x5 x6 x7 y)

end Cert.Proof.Main

end
-- ==== Proof.MainValue.lean ====
module

public import proofs.«01_k».proof.Proof.MainBlock
public import proofs.«01_k».proof.Proof.Layer
public import proofs.«01_k».proof.Proof.MainBody
public import Idealize.ShloMosaic.Lib.Pipeline.ValueKit
public import Idealize.ShloMosaic.Lib.Claim

/-!
  The array the second call ends with, of the contents it finds.
-/

@[expose] public section

set_option maxRecDepth 16384

noncomputable section

open Idealize.ShloMosaic Idealize.ShloMosaic.TcCoe Idealize.SL.Sem
open Idealize.ShloMosaic.Pipeline (Dat)

namespace Cert.Proof.Main

open Cert.KernelIdeal Cert.KernelIdeal.Gen

variable (V : (c : Dev nD) → (b : Ref sig .tc) → Buf (Elt Ideal) ((c : Thread nD τ).loc b))

/-- The block index of every window at point `t`. -/
theorem idx : ∀ t : Fin cfg1.N, win1_0.index t = ![0, 0] ∧ win1_1.index t = ![0, 0] ∧ win1_2.index t = ![0, 0]
    ∧ win1_3.index t = ![0, 0] ∧ win1_4.index t = ![0, t.val] ∧ win1_5.index t = ![0, t.val]
    ∧ win1_6.index t = ![0, t.val] ∧ win1_7.index t = ![0, t.val] ∧ win1_8.index t = ![0, t.val] :=
  (by decide +kernel : ∀ t : Fin grid1.N, _)

/-- The second call's result at row `i`, column `j`: codes times weights summed, times the row's and the column's scale, twice. -/
def mainAt (xc : FVec Ideal S4096x7168 .fp8e4m3) (hc : FVec Ideal S4096x128 .fp8e4m3) (xs hs : FVec Ideal S4096x128 .f32)
    (w : FVec Ideal S7168x18432 .fp8e4m3) (ws : FVec Ideal S1x18432 .f32) (u : FVec Ideal S128x18432 .fp8e4m3) (us : FVec Ideal S1x18432 .f32)
    (i : Fin 4096) (j : Fin 18432) : EReal :=
  (∑ d : Fin 7168, xc (ix2 i d) * w (ix2 d j)) * xs (ix2 i ⟨j.val % 128, Nat.mod_lt _ (by norm_num)⟩) * ws (ix2 0 j)
    + (∑ r : Fin 128, hc (ix2 i r) * u (ix2 r j)) * hs (ix2 i ⟨j.val % 128, Nat.mod_lt _ (by norm_num)⟩) * us (ix2 0 j)

/-- One point's block of the result is the result at the block's place. -/
theorem point (c : Dev nD) (t : Fin cfg1.N) (y : S4096x512.Idx) (j : S4096x18432.Idx)
    (h0 : (j 0 : ℕ) = y 0) (h1 : (j 1 : ℕ) = t.val * 512 + y 1) :
    blockAt (iblk1 V c 0 t) (iblk1 V c 1 t) (iblk1 V c 2 t) (iblk1 V c 3 t) (iblk1 V c 4 t) (iblk1 V c 5 t) (iblk1 V c 6 t)
        (iblk1 V c 7 t) (y 0) (y 1)
      = mainAt (V c main_v2_0) (V c main_v2_4) (V c main_v2_6) (V c main_v2_7) (V c main_arg1) (V c main_v3) (V c main_arg7) (V c main_v4) (j 0) (j 1) := by
  unfold blockAt mainAt
  blk_point [iblk1, idx t]

/-- The result array. -/
theorem final (c : Dev nD) : (dat1 V c).arrAt 8 cfg1.N = fun j =>
      mainAt (V c main_v2_0) (V c main_v2_4) (V c main_v2_6) (V c main_v2_7) (V c main_arg1) (V c main_v3) (V c main_arg7) (V c main_v4) (j 0) (j 1) := by
  refine (dat1 V c).arrAt_eq_of_covers 8 _ (by decide +kernel) fun t _ y => ?_
  blk_simp
  rw [after1_8]
  unfold outsAt1
  refine (out_at c _ _ _ _ _ _ _ _ _ _ _ _ _ _ _ _ _ _ _ _ _ _ _ _ _ _ _ y).trans (point V c t y _ ?_ ?_)
  all_goals (blk_simp [idx t] <;> try omega)

end Cert.Proof.Main

end
-- ==== Proof.KernelValue.lean ====
module

public import proofs.«01_k».proof.Proof.KernelRun
public import proofs.«01_k».proof.Proof.PrepValue
public import proofs.«01_k».proof.Proof.MainValue
public import Idealize.ShloMosaic.Lib.StableHlo.RunRead

/-!
  The seven results of the kernel's run, of its arguments.
-/

@[expose] public section

set_option maxRecDepth 16384

noncomputable section

open Idealize.ShloMosaic Idealize.ShloMosaic.TcCoe Idealize.SL.Sem
open Idealize.ShloMosaic.Pipeline (Dat)

namespace Cert.Proof.Both

open Cert.KernelIdeal Cert.KernelIdeal.Gen Cert.Proof.Prep

variable (m : (ℓ : Loc nD τ sig) → Buf (Elt Ideal) ℓ) (ρ : Dev nD → PrngReg)

/-- The rows the layer is given, as one array of 4096 rows. -/
def rows (A : Vec Ideal S2x2048x7168 .bf16) : Vec Ideal S4096x7168 .bf16 := shapeCast S4096x7168 A shapeCasts_S2x2048x7168_S4096x7168

section Host

variable (c : Dev nD)

theorem V1_v0 : V1 m ρ c main_v0 = rows (m ((c : Thread nD τ).loc main_arg0)) := by
  show W1 m ρ c (Proc.devRef .tc main_v0) = _
  unfold W1
  after_reads_simp
  try rfl

theorem V1_v1 : V1 m ρ c main_v1 = shapeCast S1x128 (m ((c : Thread nD τ).loc main_arg4)) shapeCasts_S128_S1x128 := by
  show W1 m ρ c (Proc.devRef .tc main_v1) = _
  unfold W1
  after_reads_simp
  try rfl

theorem V3_v3 : V3 m ρ c main_v3 = shapeCast S1x18432 (m ((c : Thread nD τ).loc main_arg2)) shapeCasts_S18432_S1x18432 := by
  have e : W2 m ρ c (Proc.devRef .tc main_arg2) = m ((c : Thread nD τ).loc main_arg2) := W2_args m ρ c _ (by decide)
  rw [← e]
  show W3 m ρ c (Proc.devRef .tc main_v3) = _
  unfold W3
  after_reads_simp
  try rfl

theorem V3_v4 : V3 m ρ c main_v4 = shapeCast S1x18432 (m ((c : Thread nD τ).loc main_arg8)) shapeCasts_S18432_S1x18432 := by
  have e : W2 m ρ c (Proc.devRef .tc main_arg8) = m ((c : Thread nD τ).loc main_arg8) := W2_args m ρ c _ (by decide)
  rw [← e]
  show W3 m ρ c (Proc.devRef .tc main_v4) = _
  unfold W3
  after_reads_simp
  try rfl

theorem row_v1 : row1 (V1 m ρ c main_v1) = m ((c : Thread nD τ).loc main_arg4) := by
  have e : ∀ A : FVec Ideal S128 .f32, row1 (shapeCast S1x128 A shapeCasts_S128_S1x128) = A := fun A => by
    funext x
    rw [eq_ix1 x]
    pointwise [row1]
  rw [V1_v1]
  exact e _

theorem at_v3 (j : Fin 18432) : V3 m ρ c main_v3 (ix2 0 j) = m ((c : Thread nD τ).loc main_arg2) (ix1 j) := by
  have e : ∀ A : FVec Ideal S18432 .f32, shapeCast S1x18432 A shapeCasts_S18432_S1x18432 (ix2 0 j) = A (ix1 j) := fun A => by
    pointwise []
  rw [V3_v3]
  exact e _

theorem at_v4 (j : Fin 18432) : V3 m ρ c main_v4 (ix2 0 j) = m ((c : Thread nD τ).loc main_arg8) (ix1 j) := by
  have e : ∀ A : FVec Ideal S18432 .f32, shapeCast S1x18432 A shapeCasts_S18432_S1x18432 (ix2 0 j) = A (ix1 j) := fun A => by
    pointwise []
  rw [V3_v4]
  exact e _

theorem V1_arg (a : Ref sig .tc) (ha : a ∈ argRefs) : V1 m ρ c a = m ((c : Thread nD τ).loc a) := W1_args m ρ c a ha

theorem V3_arg (a : Ref sig .tc) (ha : a ∈ argRefs) : V3 m ρ c a = m ((c : Thread nD τ).loc a) := W3_args m ρ c a ha

theorem V3_xc : V3 m ρ c main_v2_0 = (dat0 (V1 m ρ) c).arrAt 6 cfg0.N :=
  (W3_of m ρ c main_v2_0 (by decide +kernel)).trans (W2_arr m ρ c 6)
theorem V3_hc : V3 m ρ c main_v2_4 = (dat0 (V1 m ρ) c).arrAt 10 cfg0.N :=
  (W3_of m ρ c main_v2_4 (by decide +kernel)).trans (W2_arr m ρ c 10)
theorem V3_xs : V3 m ρ c main_v2_6 = (dat0 (V1 m ρ) c).arrAt 12 cfg0.N :=
  (W3_of m ρ c main_v2_6 (by decide +kernel)).trans (W2_arr m ρ c 12)
theorem V3_hs : V3 m ρ c main_v2_7 = (dat0 (V1 m ρ) c).arrAt 13 cfg0.N :=
  (W3_of m ρ c main_v2_7 (by decide +kernel)).trans (W2_arr m ρ c 13)

end Host

theorem fin6 (c : Dev nD) : (dat0 (V1 m ρ) c).arrAt 6 cfg0.N = fun j => codes (xRow (rows (m ((c : Thread nD τ).loc main_arg0))) (j 0)) (j 1) := by
  rw [Prep.final6 (V1 m ρ) c]
  rw [V1_v0 m ρ c]

theorem fin7 (c : Dev nD) : (dat0 (V1 m ρ) c).arrAt 7 cfg0.N = fun j => rowScale (xRow (rows (m ((c : Thread nD τ).loc main_arg0))) (rowOf j)) := by
  rw [Prep.final7 (V1 m ρ) c]
  rw [V1_v0 m ρ c]

theorem fin8 (c : Dev nD) : (dat0 (V1 m ρ) c).arrAt 8 cfg0.N = fun j => zCode (zRow (rows (m ((c : Thread nD τ).loc main_arg0))) (m ((c : Thread nD τ).loc main_arg3)) (m ((c : Thread nD τ).loc main_arg4)) (j 0)) (j 1) := by
  rw [Prep.final8 (V1 m ρ) c]
  rw [V1_v0 m ρ c, row_v1 m ρ c, V1_arg m ρ c main_arg3 (by decide)]

theorem fin9 (c : Dev nD) : (dat0 (V1 m ρ) c).arrAt 9 cfg0.N = fun j => zScale (zRow (rows (m ((c : Thread nD τ).loc main_arg0))) (m ((c : Thread nD τ).loc main_arg3)) (m ((c : Thread nD τ).loc main_arg4)) (rowOf j)) := by
  rw [Prep.final9 (V1 m ρ) c]
  rw [V1_v0 m ρ c, row_v1 m ρ c, V1_arg m ρ c main_arg3 (by decide)]

theorem fin10 (c : Dev nD) : (dat0 (V1 m ρ) c).arrAt 10 cfg0.N = fun j => codes (hRow (rows (m ((c : Thread nD τ).loc main_arg0))) (m ((c : Thread nD τ).loc main_arg3)) (m ((c : Thread nD τ).loc main_arg4)) (m ((c : Thread nD τ).loc main_arg5)) (m ((c : Thread nD τ).loc main_arg6)) (m ((c : Thread nD τ).loc main_arg9)) (j 0)) (j 1) := by
  rw [Prep.final10 (V1 m ρ) c]
  rw [V1_v0 m ρ c, row_v1 m ρ c, V1_arg m ρ c main_arg3 (by decide), V1_arg m ρ c main_arg5 (by decide), V1_arg m ρ c main_arg6 (by decide),
    V1_arg m ρ c main_arg9 (by decide)]

theorem fin11 (c : Dev nD) : (dat0 (V1 m ρ) c).arrAt 11 cfg0.N = fun j => rowScale (hRow (rows (m ((c : Thread nD τ).loc main_arg0))) (m ((c : Thread nD τ).loc main_arg3)) (m ((c : Thread nD τ).loc main_arg4)) (m ((c : Thread nD τ).loc main_arg5)) (m ((c : Thread nD τ).loc main_arg6)) (m ((c : Thread nD τ).loc main_arg9)) (rowOf j)) := by
  rw [Prep.final11 (V1 m ρ) c]
  rw [V1_v0 m ρ c, row_v1 m ρ c, V1_arg m ρ c main_arg3 (by decide), V1_arg m ρ c main_arg5 (by decide), V1_arg m ρ c main_arg6 (by decide),
    V1_arg m ρ c main_arg9 (by decide)]

theorem fin12 (c : Dev nD) : (dat0 (V1 m ρ) c).arrAt 12 cfg0.N = fun j => rowScale (xRow (rows (m ((c : Thread nD τ).loc main_arg0))) (j 0)) := by
  rw [Prep.final12 (V1 m ρ) c]
  rw [V1_v0 m ρ c]

theorem fin13 (c : Dev nD) : (dat0 (V1 m ρ) c).arrAt 13 cfg0.N = fun j => rowScale (hRow (rows (m ((c : Thread nD τ).loc main_arg0))) (m ((c : Thread nD τ).loc main_arg3)) (m ((c : Thread nD τ).loc main_arg4)) (m ((c : Thread nD τ).loc main_arg5)) (m ((c : Thread nD τ).loc main_arg6)) (m ((c : Thread nD τ).loc main_arg9)) (j 0)) := by
  rw [Prep.final13 (V1 m ρ) c]
  rw [V1_v0 m ρ c, row_v1 m ρ c, V1_arg m ρ c main_arg3 (by decide), V1_arg m ρ c main_arg5 (by decide), V1_arg m ρ c main_arg6 (by decide),
    V1_arg m ρ c main_arg9 (by decide)]

/-- The second call's result on what the first leaves is the layer's. -/
theorem mainAt_eq {xc : FVec Ideal S4096x7168 .fp8e4m3} {hc : FVec Ideal S4096x128 .fp8e4m3} {xs hs : FVec Ideal S4096x128 .f32}
    {w : FVec Ideal S7168x18432 .fp8e4m3} {ws : FVec Ideal S1x18432 .f32} {u : FVec Ideal S128x18432 .fp8e4m3} {us : FVec Ideal S1x18432 .f32}
    (X : FVec Ideal S4096x7168 .bf16) (W : FVec Ideal S7168x18432 .fp8e4m3) (Ws : FVec Ideal S18432 .f32) (A : FVec Ideal S128x7168 .fp8e4m3)
    (As : FVec Ideal S128 .f32) (S : Vec Ideal S33x128x128 .i8) (sg : FVec Ideal S33x128 .f32) (U : FVec Ideal S128x18432 .fp8e4m3)
    (Us : FVec Ideal S18432 .f32) (G : IVec S33 32)
    (h0 : xc = fun j => codes (xRow X (j 0)) (j 1)) (h1 : hc = fun j => codes (hRow X A As S sg G (j 0)) (j 1))
    (h2 : xs = fun j => rowScale (xRow X (j 0))) (h3 : hs = fun j => rowScale (hRow X A As S sg G (j 0)))
    (h4 : w = W) (h5 : ∀ j, ws (ix2 0 j) = Ws (ix1 j)) (h6 : u = U) (h7 : ∀ j, us (ix2 0 j) = Us (ix1 j)) (i : Fin 4096) (j : Fin 18432) :
    Main.mainAt xc hc xs hs w ws u us i j = yAt X W Ws A As S sg U Us G i j := by
  subst h0 h1 h2 h3 h4 h6
  unfold Main.mainAt yAt
  rw [h5, h7]
  rfl

/-- The layer's result. -/
theorem fin_y (c : Dev nD) : (dat1 (V3 m ρ) c).arrAt 8 cfg1.N = fun j => yAt (rows (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (j 0) (j 1) := by
  rw [Main.final (V3 m ρ) c]
  funext j
  exact mainAt_eq _ _ _ _ _ _ _ _ _ _ ((V3_xc m ρ c).trans (fin6 m ρ c)) ((V3_hc m ρ c).trans (fin10 m ρ c)) ((V3_xs m ρ c).trans (fin12 m ρ c))
    ((V3_hs m ρ c).trans (fin13 m ρ c)) (V3_arg m ρ c main_arg1 (by decide)) (at_v3 m ρ c) (V3_arg m ρ c main_arg7 (by decide)) (at_v4 m ρ c) (j 0) (j 1)

end Cert.Proof.Both

end
-- ==== Proof.RefPoint.lean ====
module

public import proofs.«01_k».proof.Proof.Scale
public import proofs.«01_k».proof.Proof.Gen.ReferenceIdeal.Skeleton
public import Idealize.ShloMosaic.Lib.Pipeline.ValueKit

/-!
  What the reference computes, place by place, in the terms of the row functions.
-/

@[expose] public section

set_option maxRecDepth 16384

noncomputable section

namespace Cert.Proof.Ref

open Cert.ReferenceIdeal Cert.ReferenceIdeal.Gen Idealize.ShloMosaic

/-- What the rows of `x` need. -/
def qvec (a : FVec Ideal S4096x7168 .f32) : FVec Ideal S4096x1 .f32 :=
  have v3 : FVec Ideal S4096x7168 .f32 := absf a
  have v4 : FVec Ideal S4096 .f32 := multiReduction .maximumf [1] S4096 v3 0xFF800000#32 reduces_S4096x7168_S4096 (.inl rfl) rfl
  have v5 : FVec Ideal S4096x1 .f32 := shapeCast S4096x1 v4 shapeCasts_S4096_S4096x1
  have cst_1 : Ideal .f32 := Scalar.ofBits .f32 0x3B124925#32
  have v6 : FVec Ideal S4096x1 .f32 := broadcast S4096x1 cst_1
  have v7 : FVec Ideal S4096x1 .f32 := mulf v5 v6
  v7

/-- What the rows of `h` need. -/
def qvecH (a : FVec Ideal S4096x128 .f32) : FVec Ideal S4096x1 .f32 :=
  have v3 : FVec Ideal S4096x128 .f32 := absf a
  have v4 : FVec Ideal S4096 .f32 := multiReduction .maximumf [1] S4096 v3 0xFF800000#32 reduces_S4096x128_S4096 (.inl rfl) rfl
  have v5 : FVec Ideal S4096x1 .f32 := shapeCast S4096x1 v4 shapeCasts_S4096_S4096x1
  have cst_1 : Ideal .f32 := Scalar.ofBits .f32 0x3B124925#32
  have v6 : FVec Ideal S4096x1 .f32 := broadcast S4096x1 cst_1
  have v7 : FVec Ideal S4096x1 .f32 := mulf v5 v6
  v7

/-- The scales of what the rows need. -/
def svec (v7 : FVec Ideal S4096x1 .f32) : FVec Ideal S4096x1 .f32 :=
  have v8 : IVec S1x246 32 := iota .tc S1x246 32 [1] iota_S1x246_d1_w32
  have v9 : IVec S1x246 32 := broadcast S1x246 125#32
  have v10 : IVec S1x246 32 := subi v8 v9
  have v11 : FVec Ideal S1x246 .f32 := sitofp .f32 v10
  have v12 : FVec Ideal S1x246 .f32 := exp2 v11
  have v13 : FVec Ideal S4096x246 .f32 := broadcastTo S4096x246 v7 broadcasts_S4096x1_S4096x246
  have v14 : FVec Ideal S4096x246 .f32 := broadcastTo S4096x246 v12 broadcasts_S1x246_S4096x246
  have v15 : IVec S4096x246 1 := cmpf .olt v13 v14
  have cst_2 : Ideal .f32 := Scalar.ofBits .f32 0x7B800000#32
  have v16 : FVec Ideal S1x246 .f32 := shapeCast S1x246 v12 shapeCasts_S1x246_S1x246
  have v17 : FVec Ideal S4096x246 .f32 := broadcastTo S4096x246 v16 broadcasts_S1x246_S4096x246
  have v18 : FVec Ideal S4096x246 .f32 := broadcast S4096x246 cst_2
  have v19 : FVec Ideal S4096x246 .f32 := select v15 v17 v18
  have v20 : FVec Ideal S4096 .f32 := multiReduction .minimumf [1] S4096 v19 0x7F800000#32 reduces_S4096x246_S4096 (.inl rfl) rfl
  have v21 : FVec Ideal S4096x1 .f32 := shapeCast S4096x1 v20 shapeCasts_S4096_S4096x1
  have cst_4 : Ideal .f32 := Scalar.ofBits .f32 0x00800000#32
  have v22 : FVec Ideal S4096x1 .f32 := broadcast S4096x1 cst_4
  have v23 : IVec S4096x1 1 := cmpf .olt v7 v22
  have cst_5 : Ideal .f32 := Scalar.ofBits .f32 0x3F800000#32
  have v24 : FVec Ideal S4096x1 .f32 := broadcast S4096x1 cst_5
  have v25 : FVec Ideal S4096x1 .f32 := select v23 v24 v21
  v25

/-- The codes of the rows of `x`. -/
def cvec (a : FVec Ideal S4096x7168 .f32) (s : FVec Ideal S4096x1 .f32) : FVec Ideal S4096x7168 .fp8e4m3 :=
  have cst_6 : Ideal .f32 := Scalar.ofBits .f32 0x3F800000#32
  have v26 : FVec Ideal S4096x1 .f32 := broadcast S4096x1 cst_6
  have v27 : FVec Ideal S4096x1 .f32 := divf v26 s
  have v28 : FVec Ideal S4096x7168 .f32 := broadcastTo S4096x7168 v27 broadcasts_S4096x1_S4096x7168
  have v29 : FVec Ideal S4096x7168 .f32 := mulf a v28
  have cst_7 : Ideal .f32 := Scalar.ofBits .f32 0xC3E00000#32
  have cst_8 : Ideal .f32 := Scalar.ofBits .f32 0x43E00000#32
  have v30 : FVec Ideal S4096x7168 .f32 := broadcast S4096x7168 cst_7
  have v31 : FVec Ideal S4096x7168 .f32 := maximumf v30 v29
  have v32 : FVec Ideal S4096x7168 .f32 := broadcast S4096x7168 cst_8
  have v33 : FVec Ideal S4096x7168 .f32 := minimumf v32 v31
  have v34 : FVec Ideal S4096x7168 .fp8e4m3 := truncf .fp8e4m3 v33 bitsLt_fp8e4m3_f32
  v34

/-- The base layer's product. -/
def bvec (a : FVec Ideal S4096x7168 .fp8e4m3) (s : FVec Ideal S4096x1 .f32) (v35 : Vec Ideal S7168x18432 .fp8e4m3) (v39 : Vec Ideal S1x18432 .f32) : FVec Ideal S4096x18432 .f32 :=
  have cst_11 : FVec Ideal S4096x18432 .f32 := constant S4096x18432 .f32 0x00000000#32
  have v36 : FVec Ideal S4096x18432 .f32 := matmul (φ₂ := .fp8e4m3) dot_S4096x7168_S7168x18432_S4096x18432_1_0_0_1_n_n none a v35 cst_11
  have v37 : FVec Ideal S4096x18432 .f32 := broadcastTo S4096x18432 s broadcasts_S4096x1_S4096x18432
  have v38 : FVec Ideal S4096x18432 .f32 := mulf v36 v37
  have v40 : FVec Ideal S1x18432 .f32 := shapeCast S1x18432 v39 shapeCasts_S1x18432_S1x18432
  have v41 : FVec Ideal S4096x18432 .f32 := broadcastTo S4096x18432 v40 broadcasts_S1x18432_S4096x18432
  have v42 : FVec Ideal S4096x18432 .f32 := mulf v38 v41
  v42

theorem pay2_eq (v0 : Vec Ideal S4096x7168 .bf16) : k0_pay2 (F := Ideal) v0 = svec (qvec (k0_pay1 (F := Ideal) v0)) := rfl

theorem pay3_eq (v0 : Vec Ideal S4096x7168 .bf16) :
    k0_pay3 (F := Ideal) v0 = cvec (k0_pay1 (F := Ideal) v0) (k0_pay2 (F := Ideal) v0) := rfl

theorem pay4_eq (v0 : Vec Ideal S4096x7168 .bf16) (w : Vec Ideal S7168x18432 .fp8e4m3) (ws : Vec Ideal S1x18432 .f32) :
    k0_pay4 (F := Ideal) v0 w ws = bvec (k0_pay3 (F := Ideal) v0) (k0_pay2 (F := Ideal) v0) w ws := rfl

theorem pay11_eq (v59 : FVec Ideal S4096x1 .f32) (v69 : IVec S33x4096x1 32) (v82 : IVec S1x4096x1 32) (v83 : FVec Ideal S4096x128 .bf16)
    (v87 : Vec Ideal S33x128x128 .i8) (v95 : Vec Ideal S33x1x128 .f32) :
    k0_pay11 (F := Ideal) v59 v69 v82 v83 v87 v95 = svec (qvecH (k0_pay10 (F := Ideal) v59 v69 v82 v83 v87 v95)) := rfl

theorem x_at (v0 : Vec Ideal S4096x7168 .bf16) (i : Fin 4096) (d : Fin 7168) :
    (k0_pay1 (F := Ideal) v0 : FVec Ideal S4096x7168 .f32) (ix2 i d) = v0 (ix2 i d) := by
  unfold k0_pay1
  rw [shapeCast_self]
  rfl

/-- The largest magnitudes of the rows. -/
def amaxX (a : FVec Ideal S4096x7168 .f32) : FVec Ideal S4096x1 .f32 :=
  shapeCast S4096x1 (multiReduction .maximumf [1] S4096 (absf a) 0xFF800000#32 reduces_S4096x7168_S4096 (.inl rfl) rfl) shapeCasts_S4096_S4096x1

theorem amaxX_at (a : FVec Ideal S4096x7168 .f32) (i : Fin 4096) : amaxX a (ix2 i 0) = amax fun d : Fin 7168 => a (ix2 i d) := by
  unfold amax
  pointwise [amaxX]

/-- The largest magnitudes of the rows. -/
def amaxH (a : FVec Ideal S4096x128 .f32) : FVec Ideal S4096x1 .f32 :=
  shapeCast S4096x1 (multiReduction .maximumf [1] S4096 (absf a) 0xFF800000#32 reduces_S4096x128_S4096 (.inl rfl) rfl) shapeCasts_S4096_S4096x1

theorem amaxH_at (a : FVec Ideal S4096x128 .f32) (i : Fin 4096) : amaxH a (ix2 i 0) = amax fun d : Fin 128 => a (ix2 i d) := by
  unfold amax
  pointwise [amaxH]

theorem scaled_at (a : FVec Ideal S4096x1 .f32) (i : Fin 4096) :
    (mulf a (broadcast S4096x1 (Scalar.ofBits (F := Ideal) .f32 0x3B124925#32)) : FVec Ideal S4096x1 .f32) (ix2 i 0)
      = a (ix2 i 0) * Ideal.ofBits .f32 991054117#32 := rfl

theorem qvec_at (a : FVec Ideal S4096x7168 .f32) (i : Fin 4096) : qvec a (ix2 i 0) = need fun d : Fin 7168 => a (ix2 i d) := by
  rw [show qvec a = mulf (amaxX a) (broadcast S4096x1 (Scalar.ofBits (F := Ideal) .f32 0x3B124925#32)) from rfl, scaled_at, amaxX_at]
  unfold need
  rfl

theorem qvecH_at (a : FVec Ideal S4096x128 .f32) (i : Fin 4096) : qvecH a (ix2 i 0) = need fun d : Fin 128 => a (ix2 i d) := by
  rw [show qvecH a = mulf (amaxH a) (broadcast S4096x1 (Scalar.ofBits (F := Ideal) .f32 0x3B124925#32)) from rfl, scaled_at, amaxH_at]
  unfold need
  rfl

/-- The int8 scales from the largest magnitudes. -/
def zsvec (v53 : FVec Ideal S4096x1 .f32) : FVec Ideal S4096x1 .f32 :=
  select (cmpf .oeq v53 (broadcast S4096x1 (Scalar.ofBits (F := Ideal) .f32 0x00000000#32)))
    (broadcast S4096x1 (Scalar.ofBits (F := Ideal) .f32 0x3F800000#32))
    (divf v53 (broadcast S4096x1 (Scalar.ofBits (F := Ideal) .f32 0x42FE0000#32)))

/-- The int8 codes from the values and the scales. -/
def zcvec (z : FVec Ideal S4096x128 .f32) (zs : FVec Ideal S4096x1 .f32) : IVec S4096x128 8 :=
  fptosi 8 (minimumf (broadcast S4096x128 (Scalar.ofBits (F := Ideal) .f32 0x42FE0000#32))
    (maximumf (broadcast S4096x128 (Scalar.ofBits (F := Ideal) .f32 0xC2FE0000#32))
      (roundeven (divf z (broadcastTo S4096x128 zs broadcasts_S4096x1_S4096x128)))))

theorem zsvec_at (v : FVec Ideal S4096x1 .f32) (i : Fin 4096) :
    zsvec v (ix2 i 0) = if v (ix2 i 0) = 0 then 1 else Ideal.div (v (ix2 i 0)) (Ideal.ofBits .f32 1123942400#32) := by
  pointwise [zsvec]

theorem zcvec_at (z : FVec Ideal S4096x128 .f32) (zs : FVec Ideal S4096x1 .f32) (i : Fin 4096) (r : Fin 128) :
    zcvec z zs (ix2 i r) = FloatOps.fptosi (F := Ideal) (φ := .f32) 8 (min (Ideal.ofBits .f32 1123942400#32) (max (Ideal.ofBits .f32 3271426048#32)
    (Ideal.liftRound Ideal.roundHalfEven (Ideal.div (z (ix2 i r)) (zs (ix2 i 0)))))) := by
  pointwise [zcvec]

theorem svec_at (a : FVec Ideal S4096x1 .f32) (i : Fin 4096) : svec a (ix2 i 0) = scale (a (ix2 i 0)) := by
  unfold scale
  pointwise [svec]

theorem cvec_at (a : FVec Ideal S4096x7168 .f32) (s : FVec Ideal S4096x1 .f32) (i : Fin 4096) (d : Fin 7168) :
    cvec a s (ix2 i d) = min (Ideal.ofBits .f32 1138753536#32) (max (Ideal.ofBits .f32 3286237184#32)
      (a (ix2 i d) * Ideal.div (Ideal.ofBits .f32 1065353216#32) (s (ix2 i 0)))) := by
  pointwise [cvec]

theorem bvec_at (a : FVec Ideal S4096x7168 .fp8e4m3) (s : FVec Ideal S4096x1 .f32) (w : Vec Ideal S7168x18432 .fp8e4m3)
    (ws : Vec Ideal S1x18432 .f32) (i : Fin 4096) (j : Fin 18432) :
    bvec a s w ws (ix2 i j) = (∑ d : Fin 7168, (a (ix2 i d) : EReal) * w (ix2 d j)) * s (ix2 i 0) * ws (ix2 0 j) := by
  pointwise [bvec]

theorem xs_at (v0 : Vec Ideal S4096x7168 .bf16) (i : Fin 4096) :
    (k0_pay2 (F := Ideal) v0 : FVec Ideal S4096x1 .f32) (ix2 i 0) = rowScale fun d : Fin 7168 => v0 (ix2 i d) := by
  rw [pay2_eq, svec_at, qvec_at]
  simp only [x_at]
  rfl

theorem xc_at (v0 : Vec Ideal S4096x7168 .bf16) (i : Fin 4096) (d : Fin 7168) :
    (k0_pay3 (F := Ideal) v0 : FVec Ideal S4096x7168 .fp8e4m3) (ix2 i d) = codes (fun d : Fin 7168 => v0 (ix2 i d)) d := by
  rw [pay3_eq, cvec_at, x_at, xs_at]
  rfl

section

variable (s : FVec Ideal S4096x1 .f32) (a : FVec Ideal S4096x7168 .fp8e4m3) (V : Vec Ideal S128x7168 .fp8e4m3) (w : Vec Ideal S1x128 .f32) (i : Fin 4096)

abbrev zrow (r : Fin 128) : EReal :=
  proj (fun x : Fin 7168 => a (ix2 i x)) (s (ix2 i 0)) (fun r x => V (ix2 r x)) (fun r => w (ix2 0 r)) r

theorem z_at (r : Fin 128) : (k0_pay5 (F := Ideal) s a V w : FVec Ideal S4096x128 .f32) (ix2 i r) = zrow s a V w i r := by
  unfold zrow proj
  pointwise [k0_pay5]

theorem zs_at : (k0_pay6 (F := Ideal) s a V w : FVec Ideal S4096x1 .f32) (ix2 i 0) = zScale (zrow s a V w i) := by
  rw [show k0_pay6 (F := Ideal) s a V w = zsvec (amaxH (k0_pay5 (F := Ideal) s a V w)) from rfl, zsvec_at, amaxH_at]
  unfold zScale
  simp only [z_at]

theorem zc_at (r : Fin 128) : (k0_pay7 (F := Ideal) s a V w : IVec S4096x128 8) (ix2 i r) = zCode (zrow s a V w i) r := by
  rw [show k0_pay7 (F := Ideal) s a V w = zcvec (k0_pay5 (F := Ideal) s a V w) (k0_pay6 (F := Ideal) s a V w) from rfl,
    zcvec_at, z_at, zs_at]
  unfold zCode zq
  rfl

theorem zb_at (r : Fin 128) : (k0_pay9 (F := Ideal) s a V w : FVec Ideal S4096x128 .bf16) (ix2 i r)
    = FloatOps.sitofp (F := Ideal) .bf16 (zCode (zrow s a V w i) r) := by
  rw [← zc_at]
  pointwise [k0_pay9]

end

theorem tenant_at (st en : Vec Ideal S33x1x1 .i32) (i : Fin 4096) : (k0_pay8 st en : IVec S1x4096x1 32) (ix3 0 i 0)
    = Finset.fold IntOp.maxsi 2147483648#32 (fun x : Fin 33 =>
        Scalar.select (IntOp.andi (IntOp.cmpi .sle (st (ix3 x 0 0)) (BitVec.ofNat 32 ↑i)) (IntOp.cmpi .slt (BitVec.ofNat 32 ↑i) (en (ix3 x 0 0))))
          (BitVec.ofNat 32 ↑x) 4294967295#32) Finset.univ := by
  pointwise [k0_pay8]

theorem h_at (zs : FVec Ideal S4096x1 .f32) (ids : IVec S33x4096x1 32) (T : IVec S1x4096x1 32) (z : FVec Ideal S4096x128 .bf16)
    (S : Vec Ideal S33x128x128 .i8) (w : Vec Ideal S33x1x128 .f32) (i : Fin 4096) (r : Fin 128) :
    (k0_pay10 (F := Ideal) zs ids T z S w : FVec Ideal S4096x128 .f32) (ix2 i r)
      = ∑ x : Fin 33, Scalar.select (IntOp.cmpi .eq (ids (ix3 x i 0)) (T (ix3 0 i 0)))
          ((∑ k : Fin 128, z (ix2 i k) * FloatOps.sitofp (F := Ideal) .bf16 (S (ix3 x k r))) * zs (ix2 i 0) * w (ix3 x 0 r)) (0 : EReal) := by
  pointwise [k0_pay10]

theorem hc_at (h : FVec Ideal S4096x128 .f32) (s : FVec Ideal S4096x1 .f32) (c : Ideal .f32) (i : Fin 4096) (d : Fin 128) :
    (k0_pay12 (F := Ideal) h s c : FVec Ideal S4096x128 .fp8e4m3) (ix2 i d) = min (Ideal.ofBits .f32 1138753536#32)
      (max (Ideal.ofBits .f32 3286237184#32) (h (ix2 i d) * Ideal.div c (s (ix2 i 0)))) := by
  pointwise [k0_pay12]

theorem y_at (b : FVec Ideal S4096x18432 .f32) (h : FVec Ideal S4096x128 .f32) (s : FVec Ideal S4096x1 .f32) (c : Ideal .f32)
    (u : Vec Ideal S128x18432 .fp8e4m3) (us : Vec Ideal S1x18432 .f32) (i : Fin 4096) (j : Fin 18432) :
    (k0_pay13 (F := Ideal) b h s c u us : FVec Ideal S4096x18432 .bf16) (ix2 i j)
      = b (ix2 i j) + (∑ k : Fin 128, (k0_pay12 (F := Ideal) h s c : FVec Ideal S4096x128 .fp8e4m3) (ix2 i k) * u (ix2 k j)) * s (ix2 i 0) * us (ix2 0 j) := by
  pointwise [k0_pay13]

end Cert.Proof.Ref

end
-- ==== Proof.Tenant.lean ====
module

public import proofs.«01_k».proof.Proof.Spec
public import Mathlib.Data.BitVec

/-!
  The last tenant that holds a row: as the greatest index over a table of tenants, and as the running prefix sums.
-/

@[expose] public section

noncomputable section

open Idealize.ShloMosaic

namespace Cert.Proof

variable (g : Fin 33 → BitVec 32)

theorem start_eq (n : ℕ) : start g n = ∑ k ∈ Finset.range n, (if h : k < 33 then g ⟨k, h⟩ else 0#32) := by
  induction n with
  | zero => rfl
  | succ n ih => rw [Finset.sum_range_succ, ← ih]; rfl

/-- The prefix sum up to and with tenant `t` is the next tenant's first row. -/
theorem prefix_eq (t : Fin 33) : (∑ i : Fin 33, if i ≤ t then g i else 0) = start g (t.val + 1) := by
  rw [start_eq]
  have e : (∑ i : Fin 33, if i ≤ t then g i else 0)
      = ∑ n ∈ Finset.range 33, (if n ≤ t.val then (if h : n < 33 then g ⟨n, h⟩ else 0#32) else 0) := by
    rw [← Fin.sum_univ_eq_sum_range (fun n => if n ≤ t.val then (if h : n < 33 then g ⟨n, h⟩ else 0#32) else 0) 33]
    refine Finset.sum_congr rfl fun i _ => ?_
    simp only [i.isLt, dite_true, Fin.le_def]
  rw [e, ← Finset.sum_filter]
  refine Finset.sum_congr (Finset.ext fun n => ?_) fun _ _ => rfl
  simp only [Finset.mem_filter, Finset.mem_range]
  omega

theorem start_sub (t : Fin 33) : start g (t.val + 1) - g t = start g t.val := by
  show start g t.val + (if h : t.val < 33 then g ⟨t.val, h⟩ else 0#32) - g t = _
  rw [dif_pos t.isLt]
  exact add_sub_cancel_right _ _

/-- The last of the first `n` tenants that hold the row, if any. -/
theorem lastHeld_spec (i : BitVec 32) (val : Fin 33 → EReal) (n : ℕ) (hn : n ≤ 33) :
    (∃ t : Fin 33, t.val < n ∧ held g t.val i ∧ (∀ k, t.val < k → k < n → ¬ held g k i) ∧ lastHeld g i val n = val t)
    ∨ ((∀ k, k < n → ¬ held g k i) ∧ lastHeld g i val n = 0) := by
  induction n with
  | zero => exact .inr ⟨fun k hk => absurd hk (Nat.not_lt_zero k), rfl⟩
  | succ n ih =>
    have hn' : n < 33 := hn
    have e : lastHeld g i val (n + 1) = if held g n i then val ⟨n, hn'⟩ else lastHeld g i val n := by
      show (if h : n < 33 then _ else _) = _
      rw [dif_pos hn']
    rw [e]
    by_cases hh : held g n i
    · rw [if_pos hh]
      exact .inl ⟨⟨n, hn'⟩, Nat.lt_succ_self n, hh, fun k h1 h2 => absurd h2 (by simp only at h1; omega), rfl⟩
    · rw [if_neg hh]
      rcases ih (by omega) with ⟨t, h1, h2, h3, h4⟩ | ⟨h1, h2⟩
      · refine .inl ⟨t, by omega, h2, fun k hk hk' => ?_, h4⟩
        rcases Nat.lt_succ_iff_lt_or_eq.mp hk' with h | h
        · exact h3 k hk h
        · subst h; exact hh
      · refine .inr ⟨fun k hk => ?_, h2⟩
        rcases Nat.lt_succ_iff_lt_or_eq.mp hk with h | h
        · exact h1 k h
        · subst h; exact hh

/-- The greatest index of a tenant that holds the row, -1 if none does. -/
def tenant (i : BitVec 32) : BitVec 32 :=
  Finset.fold IntOp.maxsi 2147483648#32 (fun x : Fin 33 =>
    Scalar.select (IntOp.andi (IntOp.cmpi .sle (start g x.val) i) (IntOp.cmpi .slt i (start g (x.val + 1))))
      (BitVec.ofNat 32 ↑x) 4294967295#32) Finset.univ

theorem entry (i : BitVec 32) (x : Fin 33) :
    Scalar.select (IntOp.andi (IntOp.cmpi .sle (start g x.val) i) (IntOp.cmpi .slt i (start g (x.val + 1))))
      (BitVec.ofNat 32 ↑x) 4294967295#32 = if held g x.val i then BitVec.ofNat 32 ↑x else 4294967295#32 := by
  show Scalar.select (BitVec.ofBool ((start g x.val).sle i) &&& BitVec.ofBool (i.slt (start g (x.val + 1)))) _ _ = _
  have key : ∀ (a b : Bool) (u v : BitVec 32), Scalar.select (BitVec.ofBool a &&& BitVec.ofBool b) u v
      = if a = true ∧ b = true then u else v := by
    intro a b u v
    cases a <;> cases b <;> rfl
  rw [key]
  unfold held
  congr

theorem toInt_of (x : Fin 33) : (BitVec.ofNat 32 x.val).toInt = x.val := by
  have : ∀ x : Fin 33, (BitVec.ofNat 32 x.val).toInt = x.val := by decide +kernel
  exact this x

theorem tenant_iff (i c : BitVec 32) : c.toInt ≤ (tenant g i).toInt
    ↔ c.toInt ≤ (2147483648#32).toInt ∨ ∃ x : Fin 33, c.toInt ≤ (if held g x.val i then (x.val : ℤ) else -1) := by
  have hr : ∀ {x y z : BitVec 32}, x.toInt ≤ (IntOp.maxsi y z).toInt ↔ x.toInt ≤ y.toInt ∨ x.toInt ≤ z.toInt := by
    intro x y z
    unfold IntOp.maxsi
    by_cases h : z.slt y = true
    · rw [if_pos h]; rw [BitVec.slt_iff_toInt_lt] at h; omega
    · rw [if_neg h]; rw [BitVec.slt_iff_toInt_lt] at h; omega
  have := Finset.fold_op_rel_iff_or (op := IntOp.maxsi (w := 32)) (r := fun a b => a.toInt ≤ b.toInt) hr
    (f := fun x : Fin 33 =>
      Scalar.select (IntOp.andi (IntOp.cmpi .sle (start g x.val) i) (IntOp.cmpi .slt i (start g (x.val + 1))))
        (BitVec.ofNat 32 ↑x) 4294967295#32) (b := 2147483648#32) (s := Finset.univ) (c := c)
  refine this.trans (or_congr Iff.rfl ?_)
  constructor
  · rintro ⟨x, _, h⟩
    refine ⟨x, ?_⟩
    rw [entry] at h
    split_ifs at h ⊢
    · rwa [toInt_of] at h
    · exact h
  · rintro ⟨x, h⟩
    refine ⟨x, Finset.mem_univ _, ?_⟩
    rw [entry]
    split_ifs at h ⊢
    · rwa [toInt_of]
    · exact h

/-- Selecting by the greatest index sums to the last holder's value. -/
theorem select_sum (i : BitVec 32) (val : Fin 33 → EReal) :
    (∑ x : Fin 33, Scalar.select (IntOp.cmpi .eq (BitVec.ofNat 32 ↑x) (tenant g i)) (val x) 0) = lastHeld g i val 33 := by
  have hsel : ∀ x : Fin 33, Scalar.select (IntOp.cmpi .eq (BitVec.ofNat 32 ↑x) (tenant g i)) (val x) 0
      = if (x.val : ℤ) = (tenant g i).toInt then val x else 0 := by
    intro x
    show Scalar.select (BitVec.ofBool (BitVec.ofNat 32 ↑x == tenant g i)) _ _ = _
    by_cases h : BitVec.ofNat 32 ↑x = tenant g i
    · rw [if_pos (by rw [← h, toInt_of]), h]; simp [Scalar.select]
    · rw [if_neg (fun e => h (BitVec.eq_of_toInt_eq (by rw [toInt_of, e])))]
      have : (BitVec.ofNat 32 ↑x == tenant g i) = false := by simpa using h
      rw [this]; rfl
  simp only [hsel]
  have hmin : (2147483648#32).toInt = -2147483648 := by decide
  rcases lastHeld_spec g i val 33 le_rfl with ⟨t, h1, h2, h3, h4⟩ | ⟨h1, h2⟩
  · have hT : (tenant g i).toInt = t.val := by
      apply le_antisymm
      · rcases (tenant_iff g i (tenant g i)).mp le_rfl with h | ⟨x, h⟩
        · omega
        · split_ifs at h with hx
          · have : ¬ t.val < x.val := fun hlt => h3 x.val hlt x.isLt hx
            omega
          · omega
      · have := (tenant_iff g i (BitVec.ofNat 32 t.val)).mpr (.inr ⟨t, by rw [if_pos h2, toInt_of]⟩)
        rwa [toInt_of] at this
    rw [h4, hT]
    rw [Finset.sum_eq_single t]
    · rw [if_pos rfl]
    · intro b _ hb
      rw [if_neg]
      intro e; exact hb (Fin.ext (by exact_mod_cast e))
    · intro h; exact absurd (Finset.mem_univ _) h
  · rw [h2]
    refine Finset.sum_eq_zero fun x _ => if_neg fun e => ?_
    rcases (tenant_iff g i (tenant g i)).mp le_rfl with h | ⟨y, h⟩
    · omega
    · rw [if_neg (h1 y.val y.isLt)] at h
      omega

end Cert.Proof

end
-- ==== Proof.RefOut.lean ====
module

public import proofs.«01_k».proof.Proof.RefPoint
public import proofs.«01_k».proof.Proof.Layer
public import proofs.«01_k».proof.Proof.Tenant
public import proofs.«01_k».proof.Proof.Gen.ReferenceIdeal.Frame
public import Idealize.ShloMosaic.Lib.Pipeline.ValueKit
public import Idealize.ShloMosaic.Lib.Routing.OpsOne

/-!
  The arrays the reference's run ends with: the layer's results at each place.
-/

@[expose] public section

set_option maxRecDepth 16384

noncomputable section

open Idealize.ShloMosaic Idealize.ShloMosaic.TcCoe Idealize.SL.Sem
open Idealize.ShloMosaic.Pipeline (Dat)

namespace Cert.Proof.Ref

open Cert.ReferenceIdeal Cert.ReferenceIdeal.Gen

/-- A vector in place of its one row. -/
def row1 {n : ℕ} (A : FVec Ideal ⟨2, ![1, n]⟩ .f32) : FVec Ideal ⟨1, ![n]⟩ .f32 := fun x => A (ix2 0 (x 0))

/-- The columns' scales of the tenants, without the axis of one row. -/
def col1 (A : FVec Ideal S33x1x128 .f32) : FVec Ideal ⟨2, ![33, 128]⟩ .f32 := fun x => A (ix3 (x 0) 0 (x 1))

theorem two0 {n m : ℕ} : (![0, 0] : Fin (⟨2, ![n, m]⟩ : Shape).rank → ℕ) = fun _ => 0 := by funext a; fin_cases a <;> rfl
theorem three0 {n m k : ℕ} : (![0, 0, 0] : Fin (⟨3, ![n, m, k]⟩ : Shape).rank → ℕ) = fun _ => 0 := by funext a; fin_cases a <;> rfl

theorem ld2 {n m : ℕ} {e : EltTy} (X : Vec Ideal ⟨2, ![n, m]⟩ e) (inb) :
    View.ld X (Rect.unit (s := ⟨2, ![n, m]⟩) ![0, 0] (⟨2, ![n, m]⟩ : Shape).size inb) = X := View.ld_unit_zero (two0 (n := n) (m := m)) inb X

theorem ld3 {n m k : ℕ} {e : EltTy} (X : Vec Ideal ⟨3, ![n, m, k]⟩ e) (inb) :
    View.ld X (Rect.unit (s := ⟨3, ![n, m, k]⟩) ![0, 0, 0] (⟨3, ![n, m, k]⟩ : Shape).size inb) = X := View.ld_unit_zero (three0 (n := n) (m := m) (k := k)) inb X

section Out

variable (x0 : Vec Ideal S4096x7168 .bf16) (x1 : Vec Ideal S7168x18432 .fp8e4m3) (x2 : Vec Ideal S1x18432 .f32) (x3 : Vec Ideal S128x7168 .fp8e4m3) (x4 : Vec Ideal S1x128 .f32) (x5 : Vec Ideal S33x128x128 .i8) (x6 : Vec Ideal S33x1x128 .f32) (x7 : Vec Ideal S128x18432 .fp8e4m3) (x8 : Vec Ideal S1x18432 .f32) (x9 : Vec Ideal S33x1x1 .i32) (x10 : Vec Ideal S33x1x1 .i32)
  (g : IVec ⟨1, ![33]⟩ 32) (h9 : ∀ t : Fin 33, x9 (ix3 t 0 0) = start (fun t => g (ix1 t)) t.val)
  (h10 : ∀ t : Fin 33, x10 (ix3 t 0 0) = start (fun t => g (ix1 t)) (t.val + 1))

theorem v17 : k0_pay17 (F := Ideal) x0 x1 x2 x3 x4 x5 x6 x7 x8 x9 x10 = k0_pay2 (F := Ideal) x0 := by
  unfold k0_pay17
  rw [ld2]

theorem v18 : k0_pay18 (F := Ideal) x0 x1 x2 x3 x4 x5 x6 x7 x8 x9 x10 = k0_pay3 (F := Ideal) x0 := by
  unfold k0_pay18
  rw [ld2]

theorem v20 : k0_pay20 (F := Ideal) x0 x1 x2 x3 x4 x5 x6 x7 x8 x9 x10 = k0_pay6 (F := Ideal) (k0_pay2 (F := Ideal) x0) (k0_pay3 (F := Ideal) x0) x3 x4 := by
  unfold k0_pay20
  rw [v17, v18, ld2, ld2]

theorem v21 : k0_pay21 (F := Ideal) x0 x1 x2 x3 x4 x5 x6 x7 x8 x9 x10 = k0_pay8 x9 x10 := by
  unfold k0_pay21
  rw [ld3, ld3]

theorem v22 : k0_pay22 (F := Ideal) x0 x1 x2 x3 x4 x5 x6 x7 x8 x9 x10 = k0_pay9 (F := Ideal) (k0_pay2 (F := Ideal) x0) (k0_pay3 (F := Ideal) x0) x3 x4 := by
  unfold k0_pay22
  rw [v17, v18, ld2, ld2]

theorem zrow_at (i : Fin 4096) : zrow (k0_pay2 (F := Ideal) x0) (k0_pay3 (F := Ideal) x0) x3 x4 i = zRow x0 x3 (row1 x4) i := by
  funext r
  unfold zrow zRow
  simp only [xc_at]
  rw [xs_at]
  rfl

theorem ids_at (x : Fin 33) (i : Fin 4096) : k0_pay19 (F := Ideal) x0 x1 x2 x3 x4 x5 x6 x7 x8 x9 x10 (ix3 x i 0) = BitVec.ofNat 32 x.val := by
  pointwise [k0_pay19]

include h9 h10 in
theorem v23_at (i : Fin 4096) (r : Fin 128) : k0_pay23 (F := Ideal) x0 x1 x2 x3 x4 x5 x6 x7 x8 x9 x10 (ix2 i r) = hRow x0 x3 (row1 x4) x5 (col1 x6) g i r := by
  unfold k0_pay23
  rw [ld3, ld3, v20, v21, v22, h_at, tenant_at]
  simp only [ids_at, h9, h10]
  rw [zs_at]
  simp only [zb_at, zrow_at]
  exact select_sum (fun t => g (ix1 t)) (BitVec.ofNat 32 i.val) (fun t => tenantAt (zRow x0 x3 (row1 x4) i) (fun x => x5 (ix3 t x r)) (col1 x6 (ix2 t r)))

include h9 h10 in
theorem v24_at (i : Fin 4096) : k0_pay24 (F := Ideal) x0 x1 x2 x3 x4 x5 x6 x7 x8 x9 x10 (ix2 i 0) = rowScale (hRow x0 x3 (row1 x4) x5 (col1 x6) g i) := by
  have e : k0_pay24 (F := Ideal) x0 x1 x2 x3 x4 x5 x6 x7 x8 x9 x10 = svec (qvecH (k0_pay23 (F := Ideal) x0 x1 x2 x3 x4 x5 x6 x7 x8 x9 x10)) := by
    unfold k0_pay24 k0_pay23
    rw [pay11_eq]
  rw [e, svec_at, qvecH_at]
  unfold rowScale
  exact congrArg scale (congrArg need (funext fun r => v23_at x0 x1 x2 x3 x4 x5 x6 x7 x8 x9 x10 g h9 h10 i r))

theorem row_scales (v : FVec Ideal S4096x1 .f32) (y : S2x2048.Idx) : (k0_pay14 (F := Ideal) v : FVec Ideal S2x2048 .f32) y = v (ix2 (rowOf y) 0) := by
  unfold k0_pay14
  pointwise []
  exact congrArg (fun i : Fin 4096 => v (ix2 i 0)) (Fin.ext (by show (y 0 : ℕ) * 2048 + (y 1 : ℕ) = 2048 * (y 0 : ℕ) + (y 1 : ℕ); omega))

theorem out12_at (i : Fin 4096) (d : Fin 7168) : out0_12 (F := Ideal) x0 x1 x2 x3 x4 x5 x6 x7 x8 x9 x10 (ix2 i d) = codes (xRow x0 i) d := by
  unfold out0_12
  rw [View.canon_unit_zero (two0 (n := 4096) (m := 7168)), v18, xc_at]
  rfl

theorem out13_at (y : S2x2048.Idx) : out0_13 (F := Ideal) x0 x1 x2 x3 x4 x5 x6 x7 x8 x9 x10 y = rowScale (xRow x0 (rowOf y)) := by
  unfold out0_13
  rw [View.canon_unit_zero (two0 (n := 2) (m := 2048)), row_scales, v17, xs_at]
  rfl

theorem out14_at (i : Fin 4096) (r : Fin 128) : out0_14 (F := Ideal) x0 x1 x2 x3 x4 x5 x6 x7 x8 x9 x10 (ix2 i r) = zCode (zRow x0 x3 (row1 x4) i) r := by
  unfold out0_14
  rw [View.canon_unit_zero (two0 (n := 4096) (m := 128)), ld2, ld2, v17, v18, zc_at, zrow_at]

theorem out15_at (y : S2x2048.Idx) : out0_15 (F := Ideal) x0 x1 x2 x3 x4 x5 x6 x7 x8 x9 x10 y = zScale (zRow x0 x3 (row1 x4) (rowOf y)) := by
  unfold out0_15
  rw [View.canon_unit_zero (two0 (n := 2) (m := 2048))]
  refine (row_scales _ y).trans ?_
  rw [v20, zs_at, zrow_at]

include h9 h10 in
theorem code_h (i : Fin 4096) (r : Fin 128) : (k0_pay12 (F := Ideal) (k0_pay23 (F := Ideal) x0 x1 x2 x3 x4 x5 x6 x7 x8 x9 x10) (k0_pay24 (F := Ideal) x0 x1 x2 x3 x4 x5 x6 x7 x8 x9 x10)
    (Scalar.ofBits .f32 0x3F800000#32) : FVec Ideal S4096x128 .fp8e4m3) (ix2 i r) = codes (hRow x0 x3 (row1 x4) x5 (col1 x6) g i) r := by
  rw [hc_at, v23_at x0 x1 x2 x3 x4 x5 x6 x7 x8 x9 x10 g h9 h10, v24_at x0 x1 x2 x3 x4 x5 x6 x7 x8 x9 x10 g h9 h10]
  rfl

include h9 h10 in
theorem out16_at (i : Fin 4096) (r : Fin 128) : out0_16 (F := Ideal) x0 x1 x2 x3 x4 x5 x6 x7 x8 x9 x10 (ix2 i r) = codes (hRow x0 x3 (row1 x4) x5 (col1 x6) g i) r := by
  unfold out0_16
  rw [View.canon_unit_zero (two0 (n := 4096) (m := 128))]
  exact code_h x0 x1 x2 x3 x4 x5 x6 x7 x8 x9 x10 g h9 h10 i r

include h9 h10 in
theorem out17_at (y : S2x2048.Idx) : out0_17 (F := Ideal) x0 x1 x2 x3 x4 x5 x6 x7 x8 x9 x10 y = rowScale (hRow x0 x3 (row1 x4) x5 (col1 x6) g (rowOf y)) := by
  unfold out0_17
  rw [View.canon_unit_zero (two0 (n := 2) (m := 2048))]
  exact (row_scales _ y).trans (v24_at x0 x1 x2 x3 x4 x5 x6 x7 x8 x9 x10 g h9 h10 (rowOf y))

include h9 h10 in
theorem out11_at (i : Fin 4096) (j : Fin 18432) : out0_11 (F := Ideal) x0 x1 x2 x3 x4 x5 x6 x7 x8 x9 x10 (ix2 i j)
    = yAt x0 x1 (row1 x2) x3 (row1 x4) x5 (col1 x6) x7 (row1 x8) g i j := by
  unfold out0_11 yAt
  rw [View.canon_unit_zero (two0 (n := 4096) (m := 18432))]
  rw [ld2 x0, ld2 x1, ld2 x2, ld2 x7, ld2 x8, y_at]
  simp only [code_h x0 x1 x2 x3 x4 x5 x6 x7 x8 x9 x10 g h9 h10]
  rw [v24_at x0 x1 x2 x3 x4 x5 x6 x7 x8 x9 x10 g h9 h10, pay4_eq, bvec_at, xs_at]
  simp only [xc_at]
  rfl

end Out

end Cert.Proof.Ref

end
-- ==== Proof.RefRun.lean ====
module

public import proofs.«01_k».proof.Proof.Gen.ReferenceIdeal.Frame
public import Idealize.ShloMosaic.Lib.Pipeline.Value

@[expose] public section

noncomputable section

namespace Cert.ReferenceIdeal.RefRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S4096x18432.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 12).cut (grid0.coords t) ((dats m 0 c).after 12 t) = _
  rw [after0_12]

/-- The index map sends distinct grid points to distinct block indices (decided over the 1 point). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S4096x7168.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the body's result for that window (`Gen.out0_13`: its stores
    as pieces over the input windows' blocks), read through the window's block. -/
theorem flushed13 (c : Dev nD) (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 13).cut (grid0.coords t) ((dats m 0 c).after 13 t) = _
  rw [after0_13]

/-- The index map sends distinct grid points to distinct block indices (decided over the 1 point). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S2x2048.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the body's result for that window (`Gen.out0_14`: its stores
    as pieces over the input windows' blocks), read through the window's block. -/
theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 14).cut (grid0.coords t) ((dats m 0 c).after 14 t) = _
  rw [after0_14]

/-- The index map sends distinct grid points to distinct block indices (decided over the 1 point). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S4096x128.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the body's result for that window (`Gen.out0_15`: its stores
    as pieces over the input windows' blocks), read through the window's block. -/
theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 15).cut (grid0.coords t) ((dats m 0 c).after 15 t) = _
  rw [after0_15]

/-- The index map sends distinct grid points to distinct block indices (decided over the 1 point). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S2x2048.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the body's result for that window (`Gen.out0_16`: its stores
    as pieces over the input windows' blocks), read through the window's block. -/
theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 16).cut (grid0.coords t) ((dats m 0 c).after 16 t) = _
  rw [after0_16]

/-- The index map sends distinct grid points to distinct block indices (decided over the 1 point). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S4096x128.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the body's result for that window (`Gen.out0_17`: its stores
    as pieces over the input windows' blocks), read through the window's block. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 17).cut (grid0.coords t) ((dats m 0 c).after 17 t) = _
  rw [after0_17]

/-- The index map sends distinct grid points to distinct block indices (decided over the 1 point). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S2x2048.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v9_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v9_1) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v9_2) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v9_3) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v9_4) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v9_5) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v9_6) = (dats m 0 c).arrAt 17 cfg0.N :=
  (h c).1 17

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v9_0) = (dats m 0 c).arrAt 11 cfg0.N
      ∧ r.2.mem ((c : Thread nD τ).loc main_v9_1) = (dats m 0 c).arrAt 12 cfg0.N
      ∧ r.2.mem ((c : Thread nD τ).loc main_v9_2) = (dats m 0 c).arrAt 13 cfg0.N
      ∧ r.2.mem ((c : Thread nD τ).loc main_v9_3) = (dats m 0 c).arrAt 14 cfg0.N
      ∧ r.2.mem ((c : Thread nD τ).loc main_v9_4) = (dats m 0 c).arrAt 15 cfg0.N
      ∧ r.2.mem ((c : Thread nD τ).loc main_v9_5) = (dats m 0 c).arrAt 16 cfg0.N
      ∧ r.2.mem ((c : Thread nD τ).loc main_v9_6) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post11 m r h c,
      post12 m r h c,
      post13 m r h c,
      post14 m r h c,
      post15 m r h c,
      post16 m r h c,
      post17 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)
-- ==== Proof.RefValue.lean ====
module

public import proofs.«01_k».proof.Proof.RefOut
public import proofs.«01_k».proof.Proof.RefRun
public import Idealize.ShloMosaic.Lib.Claim
public import Idealize.ShloMosaic.Lib.StableHlo.RunRead

/-!
  The arrays the reference's run ends with, of its arguments.
-/

@[expose] public section

set_option maxRecDepth 16384

noncomputable section

open Idealize.ShloMosaic Idealize.ShloMosaic.TcCoe Idealize.SL.Sem
open Idealize.ShloMosaic.Pipeline (Dat)

namespace Cert.Proof.Ref

open Cert.ReferenceIdeal Cert.ReferenceIdeal.Gen

variable (m : (ℓ : Loc nD τ sig) → Buf (Elt Ideal) ℓ)

/-- The one grid point's windows are the whole arrays. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0, 0]
    ∧ win0_6.index t = ![0, 0, 0]
    ∧ win0_7.index t = ![0, 0]
    ∧ win0_8.index t = ![0, 0]
    ∧ win0_9.index t = ![0, 0, 0]
    ∧ win0_10.index t = ![0, 0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0] :=
  (by decide +kernel : ∀ t : Fin grid0.N, _)

section Host

variable (c : Dev nD)

theorem V_v2 : V m c main_v2 = shapeCast S4096x7168 (m ((c : Thread nD τ).loc main_arg0)) shapeCasts_S2x2048x7168_S4096x7168 := by
  unfold V
  simp only [List.flatten_cons, List.flatten_nil, List.append_nil, List.cons_append, List.nil_append]
  after_reads_simp
  try rfl

theorem V_v3 : V m c main_v3 = broadcastInDim S1x18432 ![1] bcast_S18432_S1x18432_1 (m ((c : Thread nD τ).loc main_arg2)) := by
  unfold V
  simp only [List.flatten_cons, List.flatten_nil, List.append_nil, List.cons_append, List.nil_append]
  after_reads_simp
  try rfl

theorem V_v4 : V m c main_v4 = broadcastInDim S1x128 ![1] bcast_S128_S1x128_1 (m ((c : Thread nD τ).loc main_arg4)) := by
  unfold V
  simp only [List.flatten_cons, List.flatten_nil, List.append_nil, List.cons_append, List.nil_append]
  after_reads_simp
  try rfl

theorem V_v5 : V m c main_v5 = broadcastInDim S33x1x128 ![0, 2] bcast_S33x128_S33x1x128_0_2 (m ((c : Thread nD τ).loc main_arg6)) := by
  unfold V
  simp only [List.flatten_cons, List.flatten_nil, List.append_nil, List.cons_append, List.nil_append]
  after_reads_simp
  try rfl

theorem V_v6 : V m c main_v6 = broadcastInDim S1x18432 ![1] bcast_S18432_S1x18432_1 (m ((c : Thread nD τ).loc main_arg8)) := by
  unfold V
  simp only [List.flatten_cons, List.flatten_nil, List.append_nil, List.cons_append, List.nil_append]
  after_reads_simp
  try rfl

/-- The running sums of the tenants' sizes. -/
def sums (G : IVec S33 32) : IVec S33 32 :=
  Host.reduceWindow IntOp.addi ![33] ![1] ![32] ![0] G (broadcastInDim S_ ![] bcast_S_S_ (constantI S_ 32 0#32)) reduceWindows_S33_S33_w33s1p32_0 h_S_

theorem V_v8 : V m c main_v8 = broadcastInDim S33x1x1 ![0] bcast_S33_S33x1x1_0 (sums (m ((c : Thread nD τ).loc main_arg9))) := by
  unfold V
  simp only [List.flatten_cons, List.flatten_nil, List.append_nil, List.cons_append, List.nil_append]
  after_reads_simp
  simp -implicitDefEqProofs only [StableHlo.TRef.toBuf, StableHlo.TRef.ofBuf, cast_cast, cast_eq, sums]

theorem V_v7 : V m c main_v7 = broadcastInDim S33x1x1 ![0] bcast_S33_S33x1x1_0
    (subi (sums (m ((c : Thread nD τ).loc main_arg9))) (m ((c : Thread nD τ).loc main_arg9))) := by
  unfold V
  simp only [List.flatten_cons, List.flatten_nil, List.append_nil, List.cons_append, List.nil_append]
  after_reads_simp
  simp -implicitDefEqProofs only [StableHlo.TRef.toBuf, StableHlo.TRef.ofBuf, cast_cast, cast_eq, sums]

theorem sums_at (G : IVec S33 32) (t : Fin 33) : sums G (ix1 t) = start (fun t => G (ix1 t)) (t.val + 1) :=
  (Routing.cumsum_vec rfl G _ rfl _ _ t).trans (prefix_eq (fun t => G (ix1 t)) t)

theorem ends_at (t : Fin 33) : V m c main_v8 (ix3 t 0 0) = start (fun t => m ((c : Thread nD τ).loc main_arg9) (ix1 t)) (t.val + 1) := by
  have e : ∀ A : IVec S33 32, broadcastInDim S33x1x1 ![0] bcast_S33_S33x1x1_0 A (ix3 t 0 0) = A (ix1 t) := fun A => by pointwise []
  rw [V_v8]
  exact (e _).trans (sums_at _ t)

theorem starts_at (t : Fin 33) : V m c main_v7 (ix3 t 0 0) = start (fun t => m ((c : Thread nD τ).loc main_arg9) (ix1 t)) t.val := by
  have e : ∀ A : IVec S33 32, broadcastInDim S33x1x1 ![0] bcast_S33_S33x1x1_0 A (ix3 t 0 0) = A (ix1 t) := fun A => by pointwise []
  rw [V_v7]
  refine (e _).trans ?_
  refine (congrArg (fun s => s - m ((c : Thread nD τ).loc main_arg9) (ix1 t)) (sums_at _ t)).trans ?_
  exact start_sub (fun t => m ((c : Thread nD τ).loc main_arg9) (ix1 t)) t

theorem row_v3 : row1 (V m c main_v3) = m ((c : Thread nD τ).loc main_arg2) := by
  have e : ∀ A : FVec Ideal S18432 .f32, row1 (broadcastInDim S1x18432 ![1] bcast_S18432_S1x18432_1 A) = A := fun A => by
    funext x
    rw [eq_ix1 x]
    pointwise [row1]
  rw [V_v3]
  exact e _

theorem row_v4 : row1 (V m c main_v4) = m ((c : Thread nD τ).loc main_arg4) := by
  have e : ∀ A : FVec Ideal S128 .f32, row1 (broadcastInDim S1x128 ![1] bcast_S128_S1x128_1 A) = A := fun A => by
    funext x
    rw [eq_ix1 x]
    pointwise [row1]
  rw [V_v4]
  exact e _

theorem row_v6 : row1 (V m c main_v6) = m ((c : Thread nD τ).loc main_arg8) := by
  have e : ∀ A : FVec Ideal S18432 .f32, row1 (broadcastInDim S1x18432 ![1] bcast_S18432_S1x18432_1 A) = A := fun A => by
    funext x
    rw [eq_ix1 x]
    pointwise [row1]
  rw [V_v6]
  exact e _

theorem col_v5 : col1 (V m c main_v5) = m ((c : Thread nD τ).loc main_arg6) := by
  have e : ∀ A : FVec Ideal S33x128 .f32, col1 (broadcastInDim S33x1x128 ![0, 2] bcast_S33x128_S33x1x128_0_2 A) = A := fun A => by
    funext x
    rw [eq_ix2 x]
    pointwise [col1]
  rw [V_v5]
  exact e _

end Host

theorem blk0 (c : Dev nD) : iblk m c 0 t0_0 = V m c main_v2 := by
  funext j
  rw [eq_ix2 j]
  blk_point [iblk, idx t0_0]

theorem blk1 (c : Dev nD) : iblk m c 1 t0_0 = V m c main_arg1 := by
  funext j
  rw [eq_ix2 j]
  blk_point [iblk, idx t0_0]

theorem blk2 (c : Dev nD) : iblk m c 2 t0_0 = V m c main_v3 := by
  funext j
  rw [eq_ix2 j]
  blk_point [iblk, idx t0_0]

theorem blk3 (c : Dev nD) : iblk m c 3 t0_0 = V m c main_arg3 := by
  funext j
  rw [eq_ix2 j]
  blk_point [iblk, idx t0_0]

theorem blk4 (c : Dev nD) : iblk m c 4 t0_0 = V m c main_v4 := by
  funext j
  rw [eq_ix2 j]
  blk_point [iblk, idx t0_0]

theorem blk5 (c : Dev nD) : iblk m c 5 t0_0 = V m c main_arg5 := by
  funext j
  rw [eq_ix3 j]
  blk_point [iblk, idx t0_0]

theorem blk6 (c : Dev nD) : iblk m c 6 t0_0 = V m c main_v5 := by
  funext j
  rw [eq_ix3 j]
  blk_point [iblk, idx t0_0]

theorem blk7 (c : Dev nD) : iblk m c 7 t0_0 = V m c main_arg7 := by
  funext j
  rw [eq_ix2 j]
  blk_point [iblk, idx t0_0]

theorem blk8 (c : Dev nD) : iblk m c 8 t0_0 = V m c main_v6 := by
  funext j
  rw [eq_ix2 j]
  blk_point [iblk, idx t0_0]

theorem blk9 (c : Dev nD) : iblk m c 9 t0_0 = V m c main_v7 := by
  funext j
  rw [eq_ix3 j]
  blk_point [iblk, idx t0_0]

theorem blk10 (c : Dev nD) : iblk m c 10 t0_0 = V m c main_v8 := by
  funext j
  rw [eq_ix3 j]
  blk_point [iblk, idx t0_0]

/-- The rows the layer is given, as one array of 4096 rows. -/
def rows (A : Vec Ideal S2x2048x7168 .bf16) : Vec Ideal S4096x7168 .bf16 := shapeCast S4096x7168 A shapeCasts_S2x2048x7168_S4096x7168

/-- Result array of window 11. -/
theorem final11 (c : Dev nD) : (dats m 0 c).arrAt 11 cfg0.N = fun j => yAt (rows (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (j 0) (j 1) := by
  refine (dats m 0 c).arrAt_eq_of_after_last 11 t0_0 (by decide +kernel) _ fun j => ?_
  blk_simp
  rw [after0_11, blk0, blk1, blk2, blk3, blk4, blk5, blk6, blk7, blk8, blk9, blk10]
  refine ((congrArg _ (eq_ix2 j)).trans (out11_at (V m c main_v2) (V m c main_arg1) (V m c main_v3) (V m c main_arg3) (V m c main_v4) (V m c main_arg5) (V m c main_v5) (V m c main_arg7) (V m c main_v6) (V m c main_v7) (V m c main_v8) (m ((c : Thread nD τ).loc main_arg9)) (starts_at m c) (ends_at m c) (j 0) (j 1))).trans ?_
  rw [V_v2 m c, V_main_arg3 m c, row_v4 m c, V_main_arg5 m c, col_v5 m c, V_main_arg1 m c, row_v3 m c, V_main_arg7 m c, row_v6 m c]
  rfl

/-- Result array of window 12. -/
theorem final12 (c : Dev nD) : (dats m 0 c).arrAt 12 cfg0.N = fun j => codes (xRow (rows (m ((c : Thread nD τ).loc main_arg0))) (j 0)) (j 1) := by
  refine (dats m 0 c).arrAt_eq_of_after_last 12 t0_0 (by decide +kernel) _ fun j => ?_
  blk_simp
  rw [after0_12, blk0, blk1, blk2, blk3, blk4, blk5, blk6, blk7, blk8, blk9, blk10]
  refine ((congrArg _ (eq_ix2 j)).trans (out12_at (V m c main_v2) (V m c main_arg1) (V m c main_v3) (V m c main_arg3) (V m c main_v4) (V m c main_arg5) (V m c main_v5) (V m c main_arg7) (V m c main_v6) (V m c main_v7) (V m c main_v8) (j 0) (j 1))).trans ?_
  rw [V_v2 m c]
  rfl

/-- Result array of window 13. -/
theorem final13 (c : Dev nD) : (dats m 0 c).arrAt 13 cfg0.N = fun j => rowScale (xRow (rows (m ((c : Thread nD τ).loc main_arg0))) (rowOf j)) := by
  refine (dats m 0 c).arrAt_eq_of_after_last 13 t0_0 (by decide +kernel) _ fun j => ?_
  blk_simp
  rw [after0_13, blk0, blk1, blk2, blk3, blk4, blk5, blk6, blk7, blk8, blk9, blk10]
  refine ((out13_at (V m c main_v2) (V m c main_arg1) (V m c main_v3) (V m c main_arg3) (V m c main_v4) (V m c main_arg5) (V m c main_v5) (V m c main_arg7) (V m c main_v6) (V m c main_v7) (V m c main_v8) j)).trans ?_
  rw [V_v2 m c]
  rfl

/-- Result array of window 14. -/
theorem final14 (c : Dev nD) : (dats m 0 c).arrAt 14 cfg0.N = fun j => zCode (zRow (rows (m ((c : Thread nD τ).loc main_arg0))) (m ((c : Thread nD τ).loc main_arg3)) (m ((c : Thread nD τ).loc main_arg4)) (j 0)) (j 1) := by
  refine (dats m 0 c).arrAt_eq_of_after_last 14 t0_0 (by decide +kernel) _ fun j => ?_
  blk_simp
  rw [after0_14, blk0, blk1, blk2, blk3, blk4, blk5, blk6, blk7, blk8, blk9, blk10]
  refine ((congrArg _ (eq_ix2 j)).trans (out14_at (V m c main_v2) (V m c main_arg1) (V m c main_v3) (V m c main_arg3) (V m c main_v4) (V m c main_arg5) (V m c main_v5) (V m c main_arg7) (V m c main_v6) (V m c main_v7) (V m c main_v8) (j 0) (j 1))).trans ?_
  rw [V_v2 m c, V_main_arg3 m c, row_v4 m c]
  rfl

/-- Result array of window 15. -/
theorem final15 (c : Dev nD) : (dats m 0 c).arrAt 15 cfg0.N = fun j => zScale (zRow (rows (m ((c : Thread nD τ).loc main_arg0))) (m ((c : Thread nD τ).loc main_arg3)) (m ((c : Thread nD τ).loc main_arg4)) (rowOf j)) := by
  refine (dats m 0 c).arrAt_eq_of_after_last 15 t0_0 (by decide +kernel) _ fun j => ?_
  blk_simp
  rw [after0_15, blk0, blk1, blk2, blk3, blk4, blk5, blk6, blk7, blk8, blk9, blk10]
  refine ((out15_at (V m c main_v2) (V m c main_arg1) (V m c main_v3) (V m c main_arg3) (V m c main_v4) (V m c main_arg5) (V m c main_v5) (V m c main_arg7) (V m c main_v6) (V m c main_v7) (V m c main_v8) j)).trans ?_
  rw [V_v2 m c, V_main_arg3 m c, row_v4 m c]
  rfl

/-- Result array of window 16. -/
theorem final16 (c : Dev nD) : (dats m 0 c).arrAt 16 cfg0.N = fun j => codes (hRow (rows (m ((c : Thread nD τ).loc main_arg0))) (m ((c : Thread nD τ).loc main_arg3)) (m ((c : Thread nD τ).loc main_arg4)) (m ((c : Thread nD τ).loc main_arg5)) (m ((c : Thread nD τ).loc main_arg6)) (m ((c : Thread nD τ).loc main_arg9)) (j 0)) (j 1) := by
  refine (dats m 0 c).arrAt_eq_of_after_last 16 t0_0 (by decide +kernel) _ fun j => ?_
  blk_simp
  rw [after0_16, blk0, blk1, blk2, blk3, blk4, blk5, blk6, blk7, blk8, blk9, blk10]
  refine ((congrArg _ (eq_ix2 j)).trans (out16_at (V m c main_v2) (V m c main_arg1) (V m c main_v3) (V m c main_arg3) (V m c main_v4) (V m c main_arg5) (V m c main_v5) (V m c main_arg7) (V m c main_v6) (V m c main_v7) (V m c main_v8) (m ((c : Thread nD τ).loc main_arg9)) (starts_at m c) (ends_at m c) (j 0) (j 1))).trans ?_
  rw [V_v2 m c, V_main_arg3 m c, row_v4 m c, V_main_arg5 m c, col_v5 m c]
  rfl

/-- Result array of window 17. -/
theorem final17 (c : Dev nD) : (dats m 0 c).arrAt 17 cfg0.N = fun j => rowScale (hRow (rows (m ((c : Thread nD τ).loc main_arg0))) (m ((c : Thread nD τ).loc main_arg3)) (m ((c : Thread nD τ).loc main_arg4)) (m ((c : Thread nD τ).loc main_arg5)) (m ((c : Thread nD τ).loc main_arg6)) (m ((c : Thread nD τ).loc main_arg9)) (rowOf j)) := by
  refine (dats m 0 c).arrAt_eq_of_after_last 17 t0_0 (by decide +kernel) _ fun j => ?_
  blk_simp
  rw [after0_17, blk0, blk1, blk2, blk3, blk4, blk5, blk6, blk7, blk8, blk9, blk10]
  refine ((out17_at (V m c main_v2) (V m c main_arg1) (V m c main_v3) (V m c main_arg3) (V m c main_v4) (V m c main_arg5) (V m c main_v5) (V m c main_arg7) (V m c main_v6) (V m c main_v7) (V m c main_v8) (m ((c : Thread nD τ).loc main_arg9)) (starts_at m c) (ends_at m c) j)).trans ?_
  rw [V_v2 m c, V_main_arg3 m c, row_v4 m c, V_main_arg5 m c, col_v5 m c]
  rfl

end Cert.Proof.Ref

end
-- ==== Proof.Printed.PrepLoop.lean ====
/-
  The loop over the tenants in the first call's body: one trip, the state that the trips carry, and the loop's invariant.
-/
module

public import proofs.«01_k».proof.Proof.Gen.Kernel.Loops
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

/-- A store made under a condition writes its piece or none. -/
theorem writes_dite {κ : Kind} {sp : Space} {s : Shape} {e : EltTy} {Val : EltTy → Type} (v : View sig κ sp s e) (f : v.ty.Contents Val)
    (L : List (View.Piece Val s e)) (c : Prop) [Decidable c] :
    (if _h : c then v.writes Val f L else f) = v.writes Val f (if c then L else []) := by
  by_cases h : c
  · rw [dif_pos h, if_pos h]
  · rw [dif_neg h, if_neg h]; rfl

/-- What one trip touches: the group sizes, the stacked codes and their scales as they are, and the block's products, at contents `f_arg15`. -/
abbrev Trip_k0_t1 (c : Dev nD) (arg1 : Memref sig .tc .smem S33 .i32) (arg5 : Memref sig .tc .vmem S33x128x128 .i8) (arg6 : Memref sig .tc .vmem S33x128 .f32) (arg15 : Memref sig .tc .vmem S256x128 .f32) (X_arg1 : BufTy.Contents (Elt F) arg1.view.ty) (X_arg5 : BufTy.Contents (Elt F) arg5.view.ty) (X_arg6 : BufTy.Contents (Elt F) arg6.view.ty) (f_arg15 : BufTy.Contents (Elt F) arg15.view.ty) : sProp 𝕄G :=
  iprop((arg1.view.loc (c : Thread nD τ) ↦[arg1.view.set]{fullShare} X_arg1) ∗ (arg5.view.loc (c : Thread nD τ) ↦[arg5.view.set]{fullShare} X_arg5) ∗ (arg6.view.loc (c : Thread nD τ) ↦[arg6.view.set]{fullShare} X_arg6) ∗ (arg15.view.loc (c : Thread nD τ) ↦[arg15.view.set]{fullShare} f_arg15))

/-- One trip, at a symbolic `k` and first row `acc` of tenant `k`: when the tenant's rows meet the block, its product is stored in the
    rows that are its own (what the trip writes is the witness of the run); it yields the first row of the next tenant. -/
@[irreducible] def trip_k0_t1 (𝒱 : Variants) (c : Dev nD) (bd : Option 𝒱.V) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (X_arg1 : BufTy.Contents (Elt F) arg1.view.ty) (X_arg5 : BufTy.Contents (Elt F) arg5.view.ty) (X_arg6 : BufTy.Contents (Elt F) arg6.view.ty) (k : Fin k0_t1_loop.trips) :
    Σ' (R_k0_t1 : ((BitVec 32) → BufTy.Contents (Elt F) arg15.view.ty → BitVec 32)) , { L_arg15 : ((BitVec 32) → BufTy.Contents (Elt F) arg15.view.ty → List (View.Piece (Elt F) S256x128 .f32)) // ∀ (v79 : Vec F S256x128 .f32) (E : Set ℕ) (acc : BitVec 32) (f_arg15 : BufTy.Contents (Elt F) arg15.view.ty),
      Trip_k0_t1 (F := F) c arg1 arg5 arg6 arg15 X_arg1 X_arg5 X_arg6 f_arg15
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 v79 k acc)
          (fun yld => iprop(⌜yld = R_k0_t1 acc f_arg15⌝ ∗ Trip_k0_t1 (F := F) c arg1 arg5 arg6 arg15 X_arg1 X_arg5 X_arg6 (arg15.view.writes (Elt F) f_arg15 (L_arg15 acc f_arg15)))) } := by
  have hk : k.val < 33 := Nat.lt_of_lt_of_le k.isLt k0_t1_abs.2.1
  refine ⟨?_, ?_, fun v79 E acc f_arg15 => ?run⟩
  case run =>
    unfold k0_t1_body
    iintro ⟨HR_arg1, HR_arg5, HR_arg6, HW_arg15⟩
    sl_exec
    first | rw [writes_dite] | erw [writes_dite]
    sl_step
    sl_close

/-- What the trip yields. -/
abbrev tripR_k0_t1 (𝒱 : Variants) (c : Dev nD) (bd : Option 𝒱.V) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (X_arg1 : BufTy.Contents (Elt F) arg1.view.ty) (X_arg5 : BufTy.Contents (Elt F) arg5.view.ty) (X_arg6 : BufTy.Contents (Elt F) arg6.view.ty) (k : Fin k0_t1_loop.trips) (acc : BitVec 32) (f_arg15 : BufTy.Contents (Elt F) arg15.view.ty) : BitVec 32 :=
  (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 k).1 acc f_arg15

/-- What the trip writes into the block's products, of what it finds there. -/
abbrev tripL_k0_t1 (𝒱 : Variants) (c : Dev nD) (bd : Option 𝒱.V) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (X_arg1 : BufTy.Contents (Elt F) arg1.view.ty) (X_arg5 : BufTy.Contents (Elt F) arg5.view.ty) (X_arg6 : BufTy.Contents (Elt F) arg6.view.ty) (k : Fin k0_t1_loop.trips) (acc : BitVec 32) (f_arg15 : BufTy.Contents (Elt F) arg15.view.ty) : List (View.Piece (Elt F) S256x128 .f32) :=
  (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 k).2.1 acc f_arg15

/-- One step of the recursion below. -/
@[irreducible] def st_k0_t1Step (𝒱 : Variants) (c : Dev nD) (bd : Option 𝒱.V) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (X_arg1 : BufTy.Contents (Elt F) arg1.view.ty) (X_arg5 : BufTy.Contents (Elt F) arg5.view.ty) (X_arg6 : BufTy.Contents (Elt F) arg6.view.ty) (G_arg15 : BufTy.Contents (Elt F) arg15.view.ty) (init : BitVec 32) (k : ℕ) (prev : (BitVec 32) × List (View.Piece (Elt F) S256x128 .f32)) : (BitVec 32) × List (View.Piece (Elt F) S256x128 .f32) :=
  if h : k < k0_t1_loop.trips then
    (tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 ⟨k, h⟩ prev.1 (arg15.view.writes (Elt F) G_arg15 prev.2), (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 ⟨k, h⟩ prev.1 (arg15.view.writes (Elt F) G_arg15 prev.2)) ++ prev.2)
  else prev

/-- The state before trip `k`: the tenant's first row, and what the trips before it wrote into the block's products (last first). -/
def st_k0_t1 (𝒱 : Variants) (c : Dev nD) (bd : Option 𝒱.V) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (X_arg1 : BufTy.Contents (Elt F) arg1.view.ty) (X_arg5 : BufTy.Contents (Elt F) arg5.view.ty) (X_arg6 : BufTy.Contents (Elt F) arg6.view.ty) (G_arg15 : BufTy.Contents (Elt F) arg15.view.ty) (init : BitVec 32) : ℕ → (BitVec 32) × List (View.Piece (Elt F) S256x128 .f32)
  | 0 => (init, [])
  | k + 1 => st_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k)

theorem st_k0_t1_succ (𝒱 : Variants) (c : Dev nD) (bd : Option 𝒱.V) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (X_arg1 : BufTy.Contents (Elt F) arg1.view.ty) (X_arg5 : BufTy.Contents (Elt F) arg5.view.ty) (X_arg6 : BufTy.Contents (Elt F) arg6.view.ty) (G_arg15 : BufTy.Contents (Elt F) arg15.view.ty) (init : BitVec 32) (k : Fin k0_t1_loop.trips) :
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init (k.val + 1)
      = ((tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k.val).1 (arg15.view.writes (Elt F) G_arg15 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k.val).2)), (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k.val).1 (arg15.view.writes (Elt F) G_arg15 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k.val).2)) ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k.val).2) := by
  rw [st_k0_t1.eq_2]; unfold st_k0_t1Step; exact dif_pos k.isLt

/-- Before trip 0 the first row is the initial one. -/
theorem st_k0_t1_zero (𝒱 : Variants) (c : Dev nD) (bd : Option 𝒱.V) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (X_arg1 : BufTy.Contents (Elt F) arg1.view.ty) (X_arg5 : BufTy.Contents (Elt F) arg5.view.ty) (X_arg6 : BufTy.Contents (Elt F) arg6.view.ty) (G_arg15 : BufTy.Contents (Elt F) arg15.view.ty) (init : BitVec 32) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init 0).1 = init := rfl

/-- The invariant before trip `k`: the operands as they are, the products and the first row at the state before trip `k`. -/
abbrev inv_k0_t1 (𝒱 : Variants) (c : Dev nD) (bd : Option 𝒱.V) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (X_arg1 : BufTy.Contents (Elt F) arg1.view.ty) (X_arg5 : BufTy.Contents (Elt F) arg5.view.ty) (X_arg6 : BufTy.Contents (Elt F) arg6.view.ty) (G_arg15 : BufTy.Contents (Elt F) arg15.view.ty) (init : BitVec 32) (k : ℕ) (acc : BitVec 32) : sProp 𝕄G :=
  iprop((arg1.view.loc (c : Thread nD τ) ↦[arg1.view.set]{fullShare} X_arg1) ∗ (arg5.view.loc (c : Thread nD τ) ↦[arg5.view.set]{fullShare} X_arg5) ∗ (arg6.view.loc (c : Thread nD τ) ↦[arg6.view.set]{fullShare} X_arg6) ∗ (∃ f, (arg15.view.loc (c : Thread nD τ) ↦[arg15.view.set]{fullShare} f) ∗ ⌜f = arg15.view.writes (Elt F) G_arg15 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k).2⌝) ∗ ⌜acc = (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k).1⌝)

set_option warn.classDefReducibility false in
/-- The loop by its invariant. -/
@[sl_loop] def loopInv_k0_t1 (𝒱 : Variants) (c : Dev nD) (bd : Option 𝒱.V) (E : Set ℕ) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (v63 : FVec F S256x1 .f32) (v73 : FVec F S256x128 .bf16) (v74 : BitVec 32) (v77 : IVec S256x128 32) (v78 : FVec F S256x128 .f32) (v79 : Vec F S256x128 .f32) (X_arg1 : BufTy.Contents (Elt F) arg1.view.ty) (X_arg5 : BufTy.Contents (Elt F) arg5.view.ty) (X_arg6 : BufTy.Contents (Elt F) arg6.view.ty) (G_arg15 : BufTy.Contents (Elt F) arg15.view.ty) (init : BitVec 32) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 v79 init where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init
  step k acc := by
    iintro ⟨HR_arg1, HR_arg5, HR_arg6, ⟨%f_arg15, HW_arg15, %h_arg15⟩, %h_acc⟩
    subst h_acc
    iapply (wp_wand_r Idealize.ShloMosaic.frame (wpE (defs₀ (F := F)) 𝒱 (c : Thread nD τ) bd) E)
    isplitl [HR_arg1 HR_arg5 HR_arg6 HW_arg15]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 k).2.2 v79 E (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v63 v73 v74 v77 v78 X_arg1 X_arg5 X_arg6 G_arg15 init k).1 f_arg15)
      isplitl [HR_arg1]; · iexact HR_arg1
      isplitl [HR_arg5]; · iexact HR_arg5
      isplitl [HR_arg6]; · iexact HR_arg6
      iexact HW_arg15
    · iintro %yld ⟨%h_res, HR_arg1, HR_arg5, HR_arg6, HW_arg15⟩
      isplitl [HR_arg1]; · iexact HR_arg1
      isplitl [HR_arg5]; · iexact HR_arg5
      isplitl [HR_arg6]; · iexact HR_arg6
      simp only [st_k0_t1_succ]
      isplitl [HW_arg15]
      · iexists _; isplitl [HW_arg15]; · iexact HW_arg15
        ipureintro; rw [h_arg15, ← View.writes_append]
      ipureintro; rw [h_res, h_arg15]

end Cert.Kernel.Gen

end
-- ==== Proof.Printed.PrepRun.lean ====
/-
  The first call's body on one block of rows: what its stores leave, run from the blocks it reads.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import proofs.«01_k».proof.Proof.Printed.PrepLoop
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_prep` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 6, through which its contents are stated (`View.read_writes_of_cover`: the
    choice does not matter). -/
abbrev VO0_6 : View sig .tc .vmem S256x7168 .fp8e4m3 := (Memref.whole cc0_stg6_0 : Memref sig .tc .vmem S256x7168 .fp8e4m3).view
/-- One staging buffer of output window 7, through which its contents are stated (`View.read_writes_of_cover`: the
    choice does not matter). -/
abbrev VO0_7 : View sig .tc .vmem S2x2048 .f32 := (Memref.whole cc0_stg7_0 : Memref sig .tc .vmem S2x2048 .f32).view
/-- One staging buffer of output window 8, through which its contents are stated (`View.read_writes_of_cover`: the
    choice does not matter). -/
abbrev VO0_8 : View sig .tc .vmem S256x128 .i8 := (Memref.whole cc0_stg8_0 : Memref sig .tc .vmem S256x128 .i8).view
/-- One staging buffer of output window 9, through which its contents are stated (`View.read_writes_of_cover`: the
    choice does not matter). -/
abbrev VO0_9 : View sig .tc .vmem S2x2048 .f32 := (Memref.whole cc0_stg9_0 : Memref sig .tc .vmem S2x2048 .f32).view
/-- One staging buffer of output window 10, through which its contents are stated (`View.read_writes_of_cover`: the
    choice does not matter). -/
abbrev VO0_10 : View sig .tc .vmem S256x128 .fp8e4m3 := (Memref.whole cc0_stg10_0 : Memref sig .tc .vmem S256x128 .fp8e4m3).view
/-- One staging buffer of output window 11, through which its contents are stated (`View.read_writes_of_cover`: the
    choice does not matter). -/
abbrev VO0_11 : View sig .tc .vmem S2x2048 .f32 := (Memref.whole cc0_stg11_0 : Memref sig .tc .vmem S2x2048 .f32).view
/-- One staging buffer of output window 12, through which its contents are stated (`View.read_writes_of_cover`: the
    choice does not matter). -/
abbrev VO0_12 : View sig .tc .vmem S256x128 .f32 := (Memref.whole cc0_stg12_0 : Memref sig .tc .vmem S256x128 .f32).view
/-- One staging buffer of output window 13, through which its contents are stated (`View.read_writes_of_cover`: the
    choice does not matter). -/
abbrev VO0_13 : View sig .tc .vmem S256x128 .f32 := (Memref.whole cc0_stg13_0 : Memref sig .tc .vmem S256x128 .f32).view
/-- Each window's current staging memref at point `t`, spelled as the pipeline passes it (`bodyAt0`), and its wholeness. -/
abbrev ms0_0 (t : Fin cfg0.N) : Memref sig .tc .smem S33 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x7168 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x7168 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S33x128x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S33x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x128 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S256x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f)) ∗ (∃ r, prngReg c r)) := by
  unfold Pipeline.ΦA; rw [scopedRest0_eq]; simp only [scM0_0, owns_whole]; try rfl

/-- Where the block's scales lie in the two rows of 2048: row `⌊i / 8⌋`, from column `256 (i mod 8)`. -/
theorem k0_off4_eq : ∀ i : grid0.Coords, k0_off4 i = ![(i 0).val / 8, 256 * ((i 0).val % 8)] := by decide +kernel
instance closedOff_k0_off4 (i : grid0.Coords) : ClosedOff (k0_off4 i) := ⟨![(i 0).val / 8, 256 * ((i 0).val % 8)], k0_off4_eq i⟩

set_option maxHeartbeats 4000000 in
/-- What the body's stores leave in each output's staging memref, as pieces (last first), with the proof: on whole staging
    memrefs — the inputs' at their contents, the outputs' and the scratch at anything — the body runs to the continuation that
    holds the inputs' as they were and each output's with its pieces written. Of the three outputs that it writes in part
    (the scales), what they held before is named: the rest of them stays. -/
noncomputable def kernelRun0_A (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) :
    Σ' (L6 : List (View.Piece (Elt F) S256x7168 .fp8e4m3)), Σ' (L7 : List (View.Piece (Elt F) S2x2048 .f32)), Σ' (L8 : List (View.Piece (Elt F) S256x128 .i8)), Σ' (L9 : List (View.Piece (Elt F) S2x2048 .f32)), Σ' (L10 : List (View.Piece (Elt F) S256x128 .fp8e4m3)), Σ' (L11 : List (View.Piece (Elt F) S2x2048 .f32)), Σ' (L12 : List (View.Piece (Elt F) S256x128 .f32)), { L13 : List (View.Piece (Elt F) S256x128 .f32) //
      ∀ (E : Set ℕ) (K : PUnit → sProp 𝕄) (y7 y9 y11 : Vec F S2x2048 .f32),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare y7 ∗ (∃ d, owns (c : Thread nD τ) arg9 fullShare d) ∗ owns (c : Thread nD τ) arg10 fullShare y9 ∗ (∃ d, owns (c : Thread nD τ) arg11 fullShare d) ∗ owns (c : Thread nD τ) arg12 fullShare y11 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (arg8.view.loc (c : Thread nD τ) ↦[arg8.view.set]{fullShare} arg8.view.writes (Elt F) (harg8.unread y7) L7) ∗ (∃ f, arg9.view.loc (c : Thread nD τ) ↦[arg9.view.set]{fullShare} arg9.view.writes (Elt F) f L8) ∗ (arg10.view.loc (c : Thread nD τ) ↦[arg10.view.set]{fullShare} arg10.view.writes (Elt F) (harg10.unread y9) L9) ∗ (∃ f, arg11.view.loc (c : Thread nD τ) ↦[arg11.view.set]{fullShare} arg11.view.writes (Elt F) f L10) ∗ (arg12.view.loc (c : Thread nD τ) ↦[arg12.view.set]{fullShare} arg12.view.writes (Elt F) (harg12.unread y11) L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ d, owns (c : Thread nD τ) arg15 fullShare d)) -∗ K ⟨⟩))
          ⊢ wp frame (wpE (defs₀ (F := F)) Variants.none c none) E (cc0_prep i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, fun E K y7 y9 y11 => ?run⟩
  case run =>
    simp only [cc0_prep_eq_skeleton]; unfold cc0_prep_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%f9, %hf9, H9⟩, ⟨%d10, %f10, -, H10⟩, ⟨%f11, %hf11, H11⟩, ⟨%d12, %f12, -, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg10.eq_unread hf9; obtain rfl := harg12.eq_unread hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexact H7
    isplitl [H8]; · iexists _; iexact H8
    isplitl [H9]; · iexact H9
    isplitl [H10]; · iexists _; iexact H10
    isplitl [H11]; · iexact H11
    isplitl [H12]; · iexists _; iexact H12
    isplitl [H13]; · iexists _; iexact H13
    iexists _, _; isplitr; swap; · iexact HS0
    ipureintro; rfl

end Regions

end Cert.Kernel.Gen

end
-- ==== Proof.Printed.PrepData.lean ====
/-
  The first call's outputs point by point: what its writes cover, what they read as, and the proof data of its pipeline.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import proofs.«01_k».proof.Proof.Printed.PrepRun
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-- The body's writes of output 6 cover its block. -/
theorem cover0_A_6 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) (y : S256x7168.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).1 S256x7168.size (by sl_kernel_rfl) y

/-- What the body's writes of output 6 read as. -/
def out0_A_6 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) : Vec F S256x7168 .fp8e4m3 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).1)

/-- The body writes output 7 at the block's own scales alone. -/
theorem piece0_A_7 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) :
    ∃ w : S1x256.Idx → Elt F .f32, (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.1 = [⟨Rect.unit (s := S2x2048) (k0_off4 i) S1x256.size (k0_off4_inb i), w⟩] := ⟨_, rfl⟩

/-- What the body's writes of output 7 read as. -/
def out0_A_7 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) : Vec F S2x2048 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.1)

/-- The body's writes of output 8 cover its block. -/
theorem cover0_A_8 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.1 S256x128.size (by sl_kernel_rfl) y

/-- What the body's writes of output 8 read as. -/
def out0_A_8 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) : Vec F S256x128 .i8 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.1)

/-- The body writes output 9 at the block's own scales alone. -/
theorem piece0_A_9 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) :
    ∃ w : S1x256.Idx → Elt F .f32, (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.1 = [⟨Rect.unit (s := S2x2048) (k0_off4 i) S1x256.size (k0_off4_inb i), w⟩] := ⟨_, rfl⟩

/-- What the body's writes of output 9 read as. -/
def out0_A_9 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) : Vec F S2x2048 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.1)

/-- The body's writes of output 10 cover its block. -/
theorem cover0_A_10 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.1 S256x128.size (by sl_kernel_rfl) y

/-- What the body's writes of output 10 read as. -/
def out0_A_10 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) : Vec F S256x128 .fp8e4m3 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.1)

/-- The body writes output 11 at the block's own scales alone. -/
theorem piece0_A_11 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) :
    ∃ w : S1x256.Idx → Elt F .f32, (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.1 = [⟨Rect.unit (s := S2x2048) (k0_off4 i) S1x256.size (k0_off4_inb i), w⟩] := ⟨_, rfl⟩

/-- What the body's writes of output 11 read as. -/
def out0_A_11 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) : Vec F S2x2048 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.1)

/-- The body's writes of output 12 cover its block. -/
theorem cover0_A_12 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.1 S256x128.size (by sl_kernel_rfl) y

/-- What the body's writes of output 12 read as. -/
def out0_A_12 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) : Vec F S256x128 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.1)

/-- The body's writes of output 13 cover its block. -/
theorem cover0_A_13 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.2.1 S256x128.size (by sl_kernel_rfl) y

/-- What the body's writes of output 13 read as. -/
def out0_A_13 (c : Dev nD) (i : grid0.Coords) (arg1 : Memref sig .tc .smem S33 .i32) (harg1 : arg1.IsWhole) (arg2 : Memref sig .tc .vmem S256x7168 .bf16) (harg2 : arg2.IsWhole) (arg3 : Memref sig .tc .vmem S128x7168 .fp8e4m3) (harg3 : arg3.IsWhole) (arg4 : Memref sig .tc .vmem S1x128 .f32) (harg4 : arg4.IsWhole) (arg5 : Memref sig .tc .vmem S33x128x128 .i8) (harg5 : arg5.IsWhole) (arg6 : Memref sig .tc .vmem S33x128 .f32) (harg6 : arg6.IsWhole) (arg7 : Memref sig .tc .vmem S256x7168 .fp8e4m3) (harg7 : arg7.IsWhole) (arg8 : Memref sig .tc .vmem S2x2048 .f32) (harg8 : arg8.IsWhole) (arg9 : Memref sig .tc .vmem S256x128 .i8) (harg9 : arg9.IsWhole) (arg10 : Memref sig .tc .vmem S2x2048 .f32) (harg10 : arg10.IsWhole) (arg11 : Memref sig .tc .vmem S256x128 .fp8e4m3) (harg11 : arg11.IsWhole) (arg12 : Memref sig .tc .vmem S2x2048 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole)
    (x0 : Vec F S33 .i32) (x1 : Vec F S256x7168 .bf16) (x2 : Vec F S128x7168 .fp8e4m3) (x3 : Vec F S1x128 .f32) (x4 : Vec F S33x128x128 .i8) (x5 : Vec F S33x128 .f32) : Vec F S256x128 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).2.2.2.2.2.2.2.1)

/-- What the body writes into the outputs at point `t`, at the point's memrefs and blocks (in window order). -/
def outsAt0 (c : Dev nD) (t : Fin cfg0.N) : Vec F S256x7168 .fp8e4m3 × Vec F S2x2048 .f32 × Vec F S256x128 .i8 × Vec F S2x2048 .f32 × Vec F S256x128 .fp8e4m3 × Vec F S2x2048 .f32 × Vec F S256x128 .f32 × Vec F S256x128 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t))

/-- The block whose rows' scales lie at `y` of the two rows of 2048. -/
def pointOf (y : S2x2048.Idx) : Fin cfg0.N :=
  ⟨8 * (y 0).val + (y 1).val / 256, by
    have h0 : (y 0).val < 2 := (y 0).isLt
    have h1 : (y 1).val < 2048 := (y 1).isLt
    have : cfg0.N = 16 := rfl
    omega⟩

/-- The scales of all blocks, each at its own place: what the three outputs written in part hold after the last point. -/
def scales7 (c : Dev nD) : Vec F S2x2048 .f32 := fun y => (outsAt0 V c (pointOf y)).2.1 y
def scales9 (c : Dev nD) : Vec F S2x2048 .f32 := fun y => (outsAt0 V c (pointOf y)).2.2.2.1 y
def scales11 (c : Dev nD) : Vec F S2x2048 .f32 := fun y => (outsAt0 V c (pointOf y)).2.2.2.2.2.1 y

/-- The proof data of the first call: the arrays as it finds them; after the body at point `t` each input's buffer at its block,
    each output written whole at what the body writes, and the three outputs written in part at the scales of all blocks (of which
    point `t` knows those of the blocks up to `t`: `known0`). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t).1
    | ⟨7, _⟩ => scales7 V c
    | ⟨8, _⟩ => (outsAt0 V c t).2.2.1
    | ⟨9, _⟩ => scales9 V c
    | ⟨10, _⟩ => (outsAt0 V c t).2.2.2.2.1
    | ⟨11, _⟩ => scales11 V c
    | ⟨12, _⟩ => (outsAt0 V c t).2.2.2.2.2.2.1
    | ⟨13, _⟩ => (outsAt0 V c t).2.2.2.2.2.2.2
  Φ _ := Pipeline.ΦA spec0 c
  q _ := fullShare
  owed _ := 0

/-- The arrays are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t).1 := by dsimp only [dat0]
theorem after0_7 (c : Dev nD) (t : Fin cfg0.N) : (dat0 V c).after 7 t = scales7 V c := by dsimp only [dat0]
theorem after0_8 (c : Dev nD) (t : Fin cfg0.N) : (dat0 V c).after 8 t = (outsAt0 V c t).2.2.1 := by dsimp only [dat0]
theorem after0_9 (c : Dev nD) (t : Fin cfg0.N) : (dat0 V c).after 9 t = scales9 V c := by dsimp only [dat0]
theorem after0_10 (c : Dev nD) (t : Fin cfg0.N) : (dat0 V c).after 10 t = (outsAt0 V c t).2.2.2.2.1 := by dsimp only [dat0]
theorem after0_11 (c : Dev nD) (t : Fin cfg0.N) : (dat0 V c).after 11 t = scales11 V c := by dsimp only [dat0]
theorem after0_12 (c : Dev nD) (t : Fin cfg0.N) : (dat0 V c).after 12 t = (outsAt0 V c t).2.2.2.2.2.2.1 := by dsimp only [dat0]
theorem after0_13 (c : Dev nD) (t : Fin cfg0.N) : (dat0 V c).after 13 t = (outsAt0 V c t).2.2.2.2.2.2.2 := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

end Regions

end Cert.Kernel.Gen

end
-- ==== Proof.Printed.PrepBody.lean ====
/-
  The first call's body at one point of its grid, over the three outputs that it writes in part: a point's writes add its block's scales to those of the blocks before.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import proofs.«01_k».proof.Proof.Printed.PrepData
public import Idealize.ShloMosaic.Lib.Pipeline.RegionsLoop
public import Idealize.ShloMosaic.Lib.Pipeline.DatRel
public import Idealize.ShloMosaic.Lib.WritesUnit
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-- The outputs written in part. -/
def held0 (w : Fin cfg0.W) : Bool :=
  match w with
  | ⟨7, _⟩ => true
  | ⟨9, _⟩ => true
  | ⟨11, _⟩ => true
  | _ => false

/-- What point `t` leaves in an output written in part: the scales of the blocks up to `t`. -/
def known0 (c : Dev nD) (w : Fin cfg0.W) (t : Fin cfg0.N) : ((cfg0.win w).block.Idx → Elt F (cfg0.win w).elt) → Prop :=
  match w with
  | ⟨7, _⟩ => fun X => ∀ y : S2x2048.Idx, (pointOf y).val ≤ t.val → X y = scales7 V c y
  | ⟨9, _⟩ => fun X => ∀ y : S2x2048.Idx, (pointOf y).val ≤ t.val → X y = scales9 V c y
  | ⟨11, _⟩ => fun X => ∀ y : S2x2048.Idx, (pointOf y).val ≤ t.val → X y = scales11 V c y
  | _ => fun _ => True

/-- A buffer of scales that holds those of the blocks before `t`, written at block `t`'s: it holds those of the blocks up to `t`. -/
theorem scales_step (T Y : Vec F S2x2048 .f32) (t : Fin cfg0.N) (m : Memref sig .tc .vmem S2x2048 .f32) (hm : m.IsWhole)
    (m' : Memref sig .tc .vmem S2x2048 .f32) (L : List (View.Piece (Elt F) S2x2048 .f32))
    (hL : ∃ w : S1x256.Idx → Elt F .f32, L = [⟨Rect.unit (s := S2x2048) (k0_off4 (grid0.coords t)) S1x256.size (k0_off4_inb (grid0.coords t)), w⟩])
    (hY : ∀ y, (pointOf y).val < t.val → Y y = T y)
    (hT : ∀ y, pointOf y = t → T y = m'.view.read (Elt F) (m'.view.writes (Elt F) m'.view.junk L) y)
    (y : S2x2048.Idx) (hy : (pointOf y).val ≤ t.val) :
    m.view.read (Elt F) (m.view.writes (Elt F) (hm.unread Y) L) y = T y := by
  obtain ⟨w, rfl⟩ := hL
  have ht : ((grid0.coords t) 0).val = t.val :=
    (by decide +kernel : ∀ t : Fin cfg0.N, ((grid0.coords t) 0).val = t.val) t
  have h0 : (y 0).val < 2 := (y 0).isLt
  have h1 : (y 1).val < 2048 := (y 1).isLt
  rw [View.read_writes_cons_unit _ _ _ _ _ _ (k0_off4_eq (grid0.coords t))]
  by_cases hp : pointOf y = t
  · rw [hT y hp, View.read_writes_cons_unit _ _ _ _ _ _ (k0_off4_eq (grid0.coords t))]
    have hc : ∀ a, ![((grid0.coords t) 0).val / 8, 256 * (((grid0.coords t) 0).val % 8)] a ≤ (y a).val
        ∧ (y a).val < ![((grid0.coords t) 0).val / 8, 256 * (((grid0.coords t) 0).val % 8)] a + S1x256.size a := by
      have hv : 8 * (y 0).val + (y 1).val / 256 = t.val := congrArg Fin.val hp
      rw [ht]
      intro a
      match a with
      | ⟨0, _⟩ => show t.val / 8 ≤ (y 0).val ∧ (y 0).val < t.val / 8 + 1; omega
      | ⟨1, _⟩ => show 256 * (t.val % 8) ≤ (y 1).val ∧ (y 1).val < 256 * (t.val % 8) + 256; omega
    rw [dif_pos hc, dif_pos hc]
  · have hlt : (pointOf y).val < t.val := lt_of_le_of_ne hy fun e => hp (Fin.ext e)
    have hv : 8 * (y 0).val + (y 1).val / 256 < t.val := hlt
    rw [dif_neg, View.writes_nil, hm.read_unread, hY y hlt]
    intro hc
    have a0 := hc 0
    have a1 := hc 1
    rw [ht] at a0 a1
    have a0' : t.val / 8 ≤ (y 0).val ∧ (y 0).val < t.val / 8 + 1 := a0
    have a1' : 256 * (t.val % 8) ≤ (y 1).val ∧ (y 1).val < 256 * (t.val % 8) + 256 := a1
    omega

/-- What the body finds in output 7 at point `t`: the scales of the blocks before `t`. -/
theorem found7 (c : Dev nD) (t : Fin cfg0.N) (Y : Vec F S2x2048 .f32) (hY : ((dat0 V c).toRRel held0 (known0 V c)).Finds 7 t Y)
    (y : S2x2048.Idx) (hy : (pointOf y).val < t.val) : Y y = scales7 V c y := by
  have hf : ∀ t : Fin cfg0.N, (cfg0.win 7).fetch t = false := by decide +kernel
  have hfl : ∀ t : Fin cfg0.N, t.val < 15 → (cfg0.win 7).flush t = false := by decide +kernel
  have hN : t.val < 16 := t.isLt
  rcases (RDat.finds_of_pos _ (hf t) (by omega) Y).mp hY with h | h
  · rw [hfl _ (by show t.val - 1 < 15; omega)] at h; exact absurd h (by decide)
  · exact Dat.toRRel_leaves (dat := dat0 V c) (fgt := held0) (Rl := known0 V c) rfl h y (by show (pointOf y).val ≤ t.val - 1; omega)

/-- What the body leaves in output 7 at point `t`. -/
theorem known7 (c : Dev nD) (t : Fin cfg0.N) (Y : Vec F S2x2048 .f32) (hY : ((dat0 V c).toRRel held0 (known0 V c)).Finds 7 t Y) :
    known0 V c 7 t ((ms0_7 t).view.read (Elt F) ((ms0_7 t).view.writes (Elt F) ((hs0_7 t).unread Y)
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t)).2.1)) :=
  fun y hy => scales_step (scales7 V c) Y t (ms0_7 t) (hs0_7 t) (Memref.whole cc0_stg7_0) _ (piece0_A_7 c _ _ _ _ _ _ _ _ _ _ _ _ _ _ _ _ _ _ _ _ _ _ _ _ _ _ _ _ _ _ _ _ _ _ _ _ _) (found7 V c t Y hY)
    (fun y' hy' => by subst hy'; rfl) y hy

/-- What the body finds in output 9 at point `t`: the scales of the blocks before `t`. -/
theorem found9 (c : Dev nD) (t : Fin cfg0.N) (Y : Vec F S2x2048 .f32) (hY : ((dat0 V c).toRRel held0 (known0 V c)).Finds 9 t Y)
    (y : S2x2048.Idx) (hy : (pointOf y).val < t.val) : Y y = scales9 V c y := by
  have hf : ∀ t : Fin cfg0.N, (cfg0.win 9).fetch t = false := by decide +kernel
  have hfl : ∀ t : Fin cfg0.N, t.val < 15 → (cfg0.win 9).flush t = false := by decide +kernel
  have hN : t.val < 16 := t.isLt
  rcases (RDat.finds_of_pos _ (hf t) (by omega) Y).mp hY with h | h
  · rw [hfl _ (by show t.val - 1 < 15; omega)] at h; exact absurd h (by decide)
  · exact Dat.toRRel_leaves (dat := dat0 V c) (fgt := held0) (Rl := known0 V c) rfl h y (by show (pointOf y).val ≤ t.val - 1; omega)

/-- What the body leaves in output 9 at point `t`. -/
theorem known9 (c : Dev nD) (t : Fin cfg0.N) (Y : Vec F S2x2048 .f32) (hY : ((dat0 V c).toRRel held0 (known0 V c)).Finds 9 t Y) :
    known0 V c 9 t ((ms0_9 t).view.read (Elt F) ((ms0_9 t).view.writes (Elt F) ((hs0_9 t).unread Y)
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t)).2.2.2.1)) :=
  fun y hy => scales_step (scales9 V c) Y t (ms0_9 t) (hs0_9 t) (Memref.whole cc0_stg9_0) _ (piece0_A_9 c _ _ _ _ _ _ _ _ _ _ _ _ _ _ _ _ _ _ _ _ _ _ _ _ _ _ _ _ _ _ _ _ _ _ _ _ _) (found9 V c t Y hY)
    (fun y' hy' => by subst hy'; rfl) y hy

/-- What the body finds in output 11 at point `t`: the scales of the blocks before `t`. -/
theorem found11 (c : Dev nD) (t : Fin cfg0.N) (Y : Vec F S2x2048 .f32) (hY : ((dat0 V c).toRRel held0 (known0 V c)).Finds 11 t Y)
    (y : S2x2048.Idx) (hy : (pointOf y).val < t.val) : Y y = scales11 V c y := by
  have hf : ∀ t : Fin cfg0.N, (cfg0.win 11).fetch t = false := by decide +kernel
  have hfl : ∀ t : Fin cfg0.N, t.val < 15 → (cfg0.win 11).flush t = false := by decide +kernel
  have hN : t.val < 16 := t.isLt
  rcases (RDat.finds_of_pos _ (hf t) (by omega) Y).mp hY with h | h
  · rw [hfl _ (by show t.val - 1 < 15; omega)] at h; exact absurd h (by decide)
  · exact Dat.toRRel_leaves (dat := dat0 V c) (fgt := held0) (Rl := known0 V c) rfl h y (by show (pointOf y).val ≤ t.val - 1; omega)

/-- What the body leaves in output 11 at point `t`. -/
theorem known11 (c : Dev nD) (t : Fin cfg0.N) (Y : Vec F S2x2048 .f32) (hY : ((dat0 V c).toRRel held0 (known0 V c)).Finds 11 t Y) :
    known0 V c 11 t ((ms0_11 t).view.read (Elt F) ((ms0_11 t).view.writes (Elt F) ((hs0_11 t).unread Y)
      (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk0 V c 0 t) (iblk0 V c 1 t) (iblk0 V c 2 t) (iblk0 V c 3 t) (iblk0 V c 4 t) (iblk0 V c 5 t)).2.2.2.2.2.1)) :=
  fun y hy => scales_step (scales11 V c) Y t (ms0_11 t) (hs0_11 t) (Memref.whole cc0_stg11_0) _ (piece0_A_11 c _ _ _ _ _ _ _ _ _ _ _ _ _ _ _ _ _ _ _ _ _ _ _ _ _ _ _ _ _ _ _ _ _ _ _ _ _) (found11 V c t Y hY)
    (fun y' hy' => by subst hy'; rfl) y hy

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ Y, ⌜((dat0 V c).toRRel held0 (known0 V c)).Finds 7 t Y⌝ ∗ owns (c : Thread nD τ) (ms0_7 t) fullShare Y)
    ∗ (∃ d, owns (c : Thread nD τ) (ms0_8 t) fullShare ((dat0 V c).before 8 t d))
    ∗ (∃ Y, ⌜((dat0 V c).toRRel held0 (known0 V c)).Finds 9 t Y⌝ ∗ owns (c : Thread nD τ) (ms0_9 t) fullShare Y)
    ∗ (∃ d, owns (c : Thread nD τ) (ms0_10 t) fullShare ((dat0 V c).before 10 t d))
    ∗ (∃ Y, ⌜((dat0 V c).toRRel held0 (known0 V c)).Finds 11 t Y⌝ ∗ owns (c : Thread nD τ) (ms0_11 t) fullShare Y)
    ∗ (∃ d, owns (c : Thread nD τ) (ms0_12 t) fullShare ((dat0 V c).before 12 t d))
    ∗ (∃ d, owns (c : Thread nD τ) (ms0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ (∃ X, ⌜known0 V c 7 t X⌝ ∗ owns (c : Thread nD τ) (ms0_7 t) fullShare X)
    ∗ owns (c : Thread nD τ) (ms0_8 t) fullShare ((dat0 V c).after 8 t)
    ∗ (∃ X, ⌜known0 V c 9 t X⌝ ∗ owns (c : Thread nD τ) (ms0_9 t) fullShare X)
    ∗ owns (c : Thread nD τ) (ms0_10 t) fullShare ((dat0 V c).after 10 t)
    ∗ (∃ X, ⌜known0 V c 11 t X⌝ ∗ owns (c : Thread nD τ) (ms0_11 t) fullShare X)
    ∗ owns (c : Thread nD τ) (ms0_12 t) fullShare ((dat0 V c).after 12 t)
    ∗ owns (c : Thread nD τ) (ms0_13 t) fullShare ((dat0 V c).after 13 t))

set_option maxHeartbeats 1200000 in
/-- The body at any point: the inputs' memrefs hold their blocks, so the run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_8, after0_10, after0_12, after0_13]
  rw [show (dat0 V c).Φ t.castSucc = Pipeline.ΦA spec0 c from rfl, PhiA0_eq]
  unfold outsAt0
  unfold out0_A_6 out0_A_8 out0_A_10 out0_A_12 out0_A_13; (try dsimp only)
  iintro ⟨⟨⟨HS0, HR1, HR2, HR3, HR4, HR5, HR6, HR7, HR8, HR9, HR10, HR11, HR12, HR13, HR14⟩, Hg⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%d8, H8⟩, ⟨%Y9, %hY9, H9⟩, ⟨%d10, H10⟩, ⟨%Y11, %hY11, H11⟩, ⟨%d12, H12⟩, ⟨%d13, H13⟩⟩
  iapply ((kernelRun0_A c (grid0.coords t) _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t)).2.2.2.2.2.2.2.2 Set.univ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexact H9
  isplitl [H10]; · iexists _; iexact H10
  isplitl [H11]; · iexact H11
  isplitl [H12]; · iexists _; iexact H12
  isplitl [H13]; · iexists _; iexact H13
  isplitl [HS0]; · iexact HS0
  iintro ⟨H0, H1, H2, H3, H4, H5, ⟨%e6, H6⟩, H7, ⟨%e8, H8⟩, H9, ⟨%e10, H10⟩, H11, ⟨%e12, H12⟩, ⟨%e13, H13⟩, HS0⟩
  isplitl [HS0 HR1 HR2 HR3 HR4 HR5 HR6 HR7 HR8 HR9 HR10 HR11 HR12 HR13 HR14 Hg]
  · isplitl [HS0 HR1 HR2 HR3 HR4 HR5 HR6 HR7 HR8 HR9 HR10 HR11 HR12 HR13 HR14]
    · isplitl [HS0]
      · iexact HS0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      iexact HR14
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _ _ _ _ _ _ _ _ _)
  isplitl [H7]
  · iexists _; isplitr
    swap
    · unfold owns; iexists _; isplitr; swap; · iexact H7
      ipureintro; rfl
    ipureintro
    exact known7 V c t _ hY7
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _ _ _ _)
  isplitl [H9]
  · iexists _; isplitr
    swap
    · unfold owns; iexists _; isplitr; swap; · iexact H9
      ipureintro; rfl
    ipureintro
    exact known9 V c t _ hY9
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _)
  isplitl [H11]
  · iexists _; isplitr
    swap
    · unfold owns; iexists _; isplitr; swap; · iexact H11
      ipureintro; rfl
    ipureintro
    exact known11 V c t _ hY11
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _)
  unfold owns; iexists _; isplitr
  swap; · iexact H13
  ipureintro; exact View.read_writes_of_cover _ _ _ _ _ (cover0_A_13 c _ _ _ _ _ _ _ _ _ _ _ _ _ _ _ _ _ _ _ _ _ _ _ _ _ _ _ _ _ _ _ _ _ _ _ _ _)

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : Pipeline.BodyObligationRel (dat0 (F := F) V c) (defs₀ (F := F)) Variants.none () Set.univ held0 (known0 V c) := fun t => by
  rw [bigSep_W0, bigSep_W0, defs₀_row0]
  exact triple_restated (sound_body0 V c t) rfl .rfl fun _ => .rfl

end Regions

end Cert.Kernel.Gen

end
-- ==== Proof.Printed.MainBody.lean ====
/-
  The second call's body at one point of its grid, and what its output's window holds after it.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops

public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_main` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 8, through which its contents are stated (`View.read_writes_of_cover`: the
    choice does not matter). -/
abbrev VO1_8 : View sig .tc .vmem S4096x512 .bf16 := (Memref.whole cc1_stg8_0 : Memref sig .tc .vmem S4096x512 .bf16).view
/-- Each window's current staging memref at point `t`, spelled as the pipeline passes it (`bodyAt1`), and its wholeness. -/
abbrev ms1_0 (t : Fin cfg1.N) : Memref sig .tc .vmem S4096x7168 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S7168x512 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x512 .fp8e4m3 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S4096x512 .bf16 := win1_8.stage (cfg1.slots t 8)
abbrev hs1_8 (t : Fin cfg1.N) : (ms1_8 t).IsWhole := hstage1_8 ((cfg1.slots t 8).cast nbuf1_8)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S4096x7168 .fp8e4m3) (harg1 : arg1.IsWhole) (arg2 : Memref sig .tc .vmem S4096x128 .fp8e4m3) (harg2 : arg2.IsWhole) (arg3 : Memref sig .tc .vmem S4096x128 .f32) (harg3 : arg3.IsWhole) (arg4 : Memref sig .tc .vmem S4096x128 .f32) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S128x512 .fp8e4m3) (harg7 : arg7.IsWhole) (arg8 : Memref sig .tc .vmem S1x512 .f32) (harg8 : arg8.IsWhole) (arg9 : Memref sig .tc .vmem S4096x512 .bf16) (harg9 : arg9.IsWhole)
    (x0 : Vec F S4096x7168 .fp8e4m3) (x1 : Vec F S4096x128 .fp8e4m3) (x2 : Vec F S4096x128 .f32) (x3 : Vec F S4096x128 .f32) (x4 : Vec F S7168x512 .fp8e4m3) (x5 : Vec F S1x512 .f32) (x6 : Vec F S128x512 .fp8e4m3) (x7 : Vec F S1x512 .f32) :
    { L8 : List (View.Piece (Elt F) S4096x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc1_main i arg1 harg1 arg2 harg2 arg3 harg3 arg4 harg4 arg5 harg5 arg6 harg6 arg7 harg7 arg8 harg8 arg9 harg9) K } := by
  refine ⟨?_, fun E K => ?run⟩
  case run =>
    simp only [cc1_main_eq_skeleton]; unfold cc1_main_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

/-- The run's pieces for output 8 tile its block (16 stores of `S1024x128`, checked by the kernel's evaluation: Lib/Ring.lean `Piece.tiledL`, linear in the pieces, through a loop's `@[irreducible]` trip theorem too), so they cover it. -/
theorem cover1_A_8 (c : Dev nD) (i : grid1.Coords) (arg1 : Memref sig .tc .vmem S4096x7168 .fp8e4m3) (harg1 : arg1.IsWhole) (arg2 : Memref sig .tc .vmem S4096x128 .fp8e4m3) (harg2 : arg2.IsWhole) (arg3 : Memref sig .tc .vmem S4096x128 .f32) (harg3 : arg3.IsWhole) (arg4 : Memref sig .tc .vmem S4096x128 .f32) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S128x512 .fp8e4m3) (harg7 : arg7.IsWhole) (arg8 : Memref sig .tc .vmem S1x512 .f32) (harg8 : arg8.IsWhole) (arg9 : Memref sig .tc .vmem S4096x512 .bf16) (harg9 : arg9.IsWhole)
    (x0 : Vec F S4096x7168 .fp8e4m3) (x1 : Vec F S4096x128 .fp8e4m3) (x2 : Vec F S4096x128 .f32) (x3 : Vec F S4096x128 .f32) (x4 : Vec F S7168x512 .fp8e4m3) (x5 : Vec F S1x512 .f32) (x6 : Vec F S128x512 .fp8e4m3) (x7 : Vec F S1x512 .f32) (y : S4096x512.Idx) :
    ∃ pc ∈ (kernelRun1_A c i arg1 harg1 arg2 harg2 arg3 harg3 arg4 harg4 arg5 harg5 arg6 harg6 arg7 harg7 arg8 harg8 arg9 harg9 x0 x1 x2 x3 x4 x5 x6 x7).1, y ∈ pc.1.set :=
  View.cover_of_tiledL (kernelRun1_A c i arg1 harg1 arg2 harg2 arg3 harg3 arg4 harg4 arg5 harg5 arg6 harg6 arg7 harg7 arg8 harg8 arg9 harg9 x0 x1 x2 x3 x4 x5 x6 x7).1 S1024x128.size (by sl_kernel_rfl) y

/-- What the run leaves in output 8's staging buffer: its pieces read back over junk. -/
def out1_A_8 (c : Dev nD) (i : grid1.Coords) (arg1 : Memref sig .tc .vmem S4096x7168 .fp8e4m3) (harg1 : arg1.IsWhole) (arg2 : Memref sig .tc .vmem S4096x128 .fp8e4m3) (harg2 : arg2.IsWhole) (arg3 : Memref sig .tc .vmem S4096x128 .f32) (harg3 : arg3.IsWhole) (arg4 : Memref sig .tc .vmem S4096x128 .f32) (harg4 : arg4.IsWhole) (arg5 : Memref sig .tc .vmem S7168x512 .fp8e4m3) (harg5 : arg5.IsWhole) (arg6 : Memref sig .tc .vmem S1x512 .f32) (harg6 : arg6.IsWhole) (arg7 : Memref sig .tc .vmem S128x512 .fp8e4m3) (harg7 : arg7.IsWhole) (arg8 : Memref sig .tc .vmem S1x512 .f32) (harg8 : arg8.IsWhole) (arg9 : Memref sig .tc .vmem S4096x512 .bf16) (harg9 : arg9.IsWhole)
    (x0 : Vec F S4096x7168 .fp8e4m3) (x1 : Vec F S4096x128 .fp8e4m3) (x2 : Vec F S4096x128 .f32) (x3 : Vec F S4096x128 .f32) (x4 : Vec F S7168x512 .fp8e4m3) (x5 : Vec F S1x512 .f32) (x6 : Vec F S128x512 .fp8e4m3) (x7 : Vec F S1x512 .f32) : Vec F S4096x512 .bf16 :=
  VO1_8.read (Elt F) (VO1_8.writes (Elt F) VO1_8.junk (kernelRun1_A c i arg1 harg1 arg2 harg2 arg3 harg3 arg4 harg4 arg5 harg5 arg6 harg6 arg7 harg7 arg8 harg8 arg9 harg9 x0 x1 x2 x3 x4 x5 x6 x7).1)

/-! ## What the outputs hold after each point -/

/-- What the outputs' staging buffers hold after the body at point `t`: the run's contents at
    the point's memrefs and input blocks. -/
def outsAt1 (c : Dev nD) (t : Fin cfg1.N) : Vec F S4096x512 .bf16 :=
  out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) (iblk1 V c 7 t)

/-! ## The pipeline's proof data -/

/-- The proof data of pipeline 1 on core `c`: the arrays as the region finds them (`V`); after the body at
    point `t` each input's buffer at its block and the outputs' at `outsAt1`; the invariant the class's
    (`ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 800000 in
/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  unfold outsAt1
  unfold out1_A_8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun1_A c (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover1_A_8 c _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (`triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Gen

end
-- ==== Proof.Printed.Run.lean ====
/-
  The run of the two calls: what every buffer holds at each boundary, and at the end.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import proofs.«01_k».proof.Proof.Printed.PrepBody
public import proofs.«01_k».proof.Proof.Printed.MainBody
public import Idealize.ShloMosaic.Lib.Pipeline.ArrRel
public import Idealize.ShloMosaic.Lib.Pipeline.DatRel
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the first call leaves -/

section Exit
variable (V : (c : Dev nD) → (b : Ref sig .tc) → Buf (Elt F) ((c : Thread nD τ).loc b))

/-- The last point of the first call's grid. -/
abbrev lastPoint : Fin cfg0.N := ⟨15, by decide⟩

/-- An output written in part is flushed at the last point only. -/
theorem flush_last7 : ∀ t : Fin cfg0.N, (cfg0.win 7).flush t = true → t = lastPoint := by decide +kernel
theorem flush_last9 : ∀ t : Fin cfg0.N, (cfg0.win 9).flush t = true → t = lastPoint := by decide +kernel
theorem flush_last11 : ∀ t : Fin cfg0.N, (cfg0.win 11).flush t = true → t = lastPoint := by decide +kernel

/-- What is known of such an output at the last point names all of it. -/
theorem known_last7 (c : Dev nD) (X) (h : known0 V c 7 lastPoint X) : X = scales7 V c :=
  funext fun y => h y (Nat.le_of_lt_succ (pointOf y).isLt)
theorem known_last9 (c : Dev nD) (X) (h : known0 V c 9 lastPoint X) : X = scales9 V c :=
  funext fun y => h y (Nat.le_of_lt_succ (pointOf y).isLt)
theorem known_last11 (c : Dev nD) (X) (h : known0 V c 11 lastPoint X) : X = scales11 V c :=
  funext fun y => h y (Nat.le_of_lt_succ (pointOf y).isLt)

/-- The first call's relational data. -/
abbrev rdat0 (c : Dev nD) : RDat τ (Elt F) Unit ℕ (UR sig nD τ) ℕ cfg0 c := (dat0 V c).toRRel held0 (known0 V c)

/-- An array of an output written in part holds what the exact data name. -/
theorem left_held (c : Dev nD) (w : Fin cfg0.W) (hw : held0 w = true)
    (hflush : ∀ t : Fin cfg0.N, (cfg0.win w).flush t = true → t = lastPoint)
    (hknown : ∀ X, known0 V c w lastPoint X → X = (dat0 V c).after w lastPoint) (G)
    (hG : (rdat0 V c).ArrAt w cfg0.N G) : G = (dat0 V c).arrAt w cfg0.N := by
  obtain ⟨X, hX, hA⟩ := hG.exists_exact
  refine hA (dat0 V c).after fun u hu hf => ?_
  have h := (dat0 V c).toRRel_leaves hw (hX u hu hf)
  have e := hflush u hf
  rw [e] at h ⊢
  exact (hknown _ h).symm

/-- Each array of the first call ends at what the exact data name. -/
theorem left0 (c : Dev nD) (w : Fin cfg0.W) (G) (hG : (rdat0 V c).ArrAt w cfg0.N G) : G = (dat0 V c).arrAt w cfg0.N := by
  by_cases h : held0 w = false
  · exact ((dat0 V c).toR_arrAt_iff w _ G).mp (((dat0 V c).toR.override_arrAt (by simp only [h]) _ G).mp hG)
  · have hw : w = 7 ∨ w = 9 ∨ w = 11 :=
      (by decide +kernel : ∀ w : Fin cfg0.W, ¬ held0 w = false → w = 7 ∨ w = 9 ∨ w = 11) w h
    rcases hw with rfl | rfl | rfl
    · exact left_held V c 7 rfl flush_last7 (fun X hX => (known_last7 V c X hX).trans (after0_7 V c _).symm) G hG
    · exact left_held V c 9 rfl flush_last9 (fun X hX => (known_last9 V c X hX).trans (after0_9 V c _).symm) G hG
    · exact left_held V c 11 rfl flush_last11 (fun X hX => (known_last11 V c X hX).trans (after0_11 V c _).symm) G hG

/-- So the arrays of the first call after its last write-back are as the exact data name them. -/
theorem arrays_left0 (c : Dev nD) :
    ((rdat0 V c).arraysAt cfg0.N : sProp 𝕄) ⊢ (dat0 V c).arrays ((dat0 V c).arrAt · cfg0.N) := by
  unfold RDat.arraysAt Dat.arrays
  refine BI.bigSep_mono fun w _ => ?_
  show iprop(∃ G, ⌜(rdat0 V c).ArrAt w cfg0.N G⌝ ∗ (cfg0.win w).arr.view.loc (c.tc : Thread nD τ) ↦[(cfg0.win w).arr.view.set]{(dat0 V c).share w} G)
      ⊢ ((cfg0.win w).arr.view.loc (c.tc : Thread nD τ) ↦[(cfg0.win w).arr.view.set]{(dat0 V c).share w} (dat0 V c).arrAt w cfg0.N : sProp 𝕄)
  iintro ⟨%G, %hG, H⟩
  rw [left0 V c w G hG]; iexact H

end Exit

/-! # THE RUN: @main's segments from the launch to the return (`θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3, main_v4]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (`withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (`withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- The same data as the run takes them: the first call's outputs written in part held to what is known of them. -/
def rdats : (p : Fin 2) → (c : Dev nD) → RDat τ (Elt F) Unit ℕ (UR sig nD τ) ℕ (Pipeline.pin (pcfgs (F := F)) adm p) c
  | ⟨0, _⟩ => fun c => rdat0 (V1 m ρ) c
  | ⟨1, _⟩ => fun c => (dat1 (V3 m ρ) c).toR
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).toRRel
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.RDat.arrays_of_unscopedBufs (p := 0) (pcfgs (F := F)) adm (rdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha0, HO, HY, Hrest⟩
    ihave Ha := (show ((rdats m ρ 0 c).arraysAt (Pipeline.pin (pcfgs (F := F)) adm 0).N : sProp 𝕄)
        ⊢ (pdats m ρ 0 c).arrays ((pdats m ρ 0 c).arrAt · cfg0.N) from arrays_left0 (V1 m ρ) c) $$ Ha0
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose.toR
  hwaits := Pipeline.RDat.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.RDat.arrays_of_unscopedBufs (p := 1) (pcfgs (F := F)) adm (rdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha0, HO, HY, Hrest⟩
    ihave Ha := (show ((rdats m ρ 1 c).arraysAt (Pipeline.pin (pcfgs (F := F)) adm 1).N : sProp 𝕄)
        ⊢ (pdats m ρ 1 c).arrays ((pdats m ρ 1 c).arrAt · cfg1.N) from Entails.of_eq ((dat1 (V3 m ρ) c).toR_arraysAt_eq cfg1.N)) $$ Ha0
    imodintro
    isplitl [Ha Hrest HY]
    · isplitl [Ha Hrest]
      · iapply hjoin; isplitl [Ha] <;> iassumption
      iexact HY
    unfold Pipeline.RDat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.RDat.Seg (pcfgs (F := F)) adm (rdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.RDat.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W4_<arg>`;
    the kit shows every counter at zero except the TensorCores' unscoped ones, of which there are none. Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h => h.1) (frame m ρ)

end Cert.Kernel.Gen

end
-- ==== Proof.lean ====
module

public import proofs.«01_k».proof.Defs
public import proofs.«01_k».proof.Proof.KernelValue
public import proofs.«01_k».proof.Proof.RefValue
public import proofs.«01_k».proof.Proof.Printed.Run
public import proofs.«01_k».proof.Proof.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

set_option maxRecDepth 16384

noncomputable section

namespace Cert.Proof

open Idealize.ShloMosaic Idealize.SL.Sem Cert.Kernel

/-- Result 1 of the two runs is the same array. -/
theorem result0 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (Cert.ReferenceIdeal.Gen.dats m' 0 c).arrAt 11 Cert.ReferenceIdeal.cfg0.N = (Cert.KernelIdeal.Gen.dat1 (Cert.KernelIdeal.Gen.V3 m ρ) c).arrAt 8 Cert.KernelIdeal.cfg1.N := by
  refine (Cert.Proof.Ref.final11 m' c).trans (Eq.trans ?_ (Cert.Proof.Both.fin_y m ρ c).symm)
  rw [e0, e1, e2, e3, e4, e5, e6, e7, e8, e9]
  rfl

/-- Result 2 of the two runs is the same array. -/
theorem result1 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (Cert.ReferenceIdeal.Gen.dats m' 0 c).arrAt 12 Cert.ReferenceIdeal.cfg0.N = (Cert.KernelIdeal.Gen.dat0 (Cert.KernelIdeal.Gen.V1 m ρ) c).arrAt 6 Cert.KernelIdeal.cfg0.N := by
  refine (Cert.Proof.Ref.final12 m' c).trans (Eq.trans ?_ (Cert.Proof.Both.fin6 m ρ c).symm)
  rw [e0]
  rfl

/-- Result 3 of the two runs is the same array. -/
theorem result2 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (Cert.ReferenceIdeal.Gen.dats m' 0 c).arrAt 13 Cert.ReferenceIdeal.cfg0.N = (Cert.KernelIdeal.Gen.dat0 (Cert.KernelIdeal.Gen.V1 m ρ) c).arrAt 7 Cert.KernelIdeal.cfg0.N := by
  refine (Cert.Proof.Ref.final13 m' c).trans (Eq.trans ?_ (Cert.Proof.Both.fin7 m ρ c).symm)
  rw [e0]
  rfl

/-- Result 4 of the two runs is the same array. -/
theorem result3 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Gen.dats m' 0 c).arrAt 14 Cert.ReferenceIdeal.cfg0.N = (Cert.KernelIdeal.Gen.dat0 (Cert.KernelIdeal.Gen.V1 m ρ) c).arrAt 8 Cert.KernelIdeal.cfg0.N := by
  refine (Cert.Proof.Ref.final14 m' c).trans (Eq.trans ?_ (Cert.Proof.Both.fin8 m ρ c).symm)
  rw [e0, e3, e4]
  rfl

/-- Result 5 of the two runs is the same array. -/
theorem result4 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Gen.dats m' 0 c).arrAt 15 Cert.ReferenceIdeal.cfg0.N = (Cert.KernelIdeal.Gen.dat0 (Cert.KernelIdeal.Gen.V1 m ρ) c).arrAt 9 Cert.KernelIdeal.cfg0.N := by
  refine (Cert.Proof.Ref.final15 m' c).trans (Eq.trans ?_ (Cert.Proof.Both.fin9 m ρ c).symm)
  rw [e0, e3, e4]
  rfl

/-- Result 6 of the two runs is the same array. -/
theorem result5 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (Cert.ReferenceIdeal.Gen.dats m' 0 c).arrAt 16 Cert.ReferenceIdeal.cfg0.N = (Cert.KernelIdeal.Gen.dat0 (Cert.KernelIdeal.Gen.V1 m ρ) c).arrAt 10 Cert.KernelIdeal.cfg0.N := by
  refine (Cert.Proof.Ref.final16 m' c).trans (Eq.trans ?_ (Cert.Proof.Both.fin10 m ρ c).symm)
  rw [e0, e3, e4, e5, e6, e9]
  rfl

/-- Result 7 of the two runs is the same array. -/
theorem result6 (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (Cert.ReferenceIdeal.Gen.dats m' 0 c).arrAt 17 Cert.ReferenceIdeal.cfg0.N = (Cert.KernelIdeal.Gen.dat0 (Cert.KernelIdeal.Gen.V1 m ρ) c).arrAt 11 Cert.KernelIdeal.cfg0.N := by
  refine (Cert.Proof.Ref.final17 m' c).trans (Eq.trans ?_ (Cert.Proof.Both.fin11 m ρ c).symm)
  rw [e0, e3, e4, e5, e6, e9]
  rfl

/-- The two runs end with the same seven arrays. -/
theorem algebraic : Cert.algebraic_KernelIdeal_ReferenceIdeal := by
  intro m ρ m' ρ' _ hagree
  refine ⟨fun c => (Cert.KernelIdeal.Gen.dat1 (Cert.KernelIdeal.Gen.V3 m ρ) c).arrAt 8 Cert.KernelIdeal.cfg1.N,
    fun c => (Cert.KernelIdeal.Gen.dat0 (Cert.KernelIdeal.Gen.V1 m ρ) c).arrAt 6 Cert.KernelIdeal.cfg0.N,
    fun c => (Cert.KernelIdeal.Gen.dat0 (Cert.KernelIdeal.Gen.V1 m ρ) c).arrAt 7 Cert.KernelIdeal.cfg0.N,
    fun c => (Cert.KernelIdeal.Gen.dat0 (Cert.KernelIdeal.Gen.V1 m ρ) c).arrAt 8 Cert.KernelIdeal.cfg0.N,
    fun c => (Cert.KernelIdeal.Gen.dat0 (Cert.KernelIdeal.Gen.V1 m ρ) c).arrAt 9 Cert.KernelIdeal.cfg0.N,
    fun c => (Cert.KernelIdeal.Gen.dat0 (Cert.KernelIdeal.Gen.V1 m ρ) c).arrAt 10 Cert.KernelIdeal.cfg0.N,
    fun c => (Cert.KernelIdeal.Gen.dat0 (Cert.KernelIdeal.Gen.V1 m ρ) c).arrAt 11 Cert.KernelIdeal.cfg0.N,
    Cert.KernelIdeal.Gen.run_ends (F := Ideal) m ρ, ?_⟩
  refine (θ_run Cert.ReferenceIdeal.defs _ _).mono (fun _ h c => ?_) (Cert.ReferenceIdeal.RefRun.run_blocks (F := Ideal) m' ρ')
  obtain ⟨e0, e1, e2, e3, e4, e5, e6, e7, e8, e9⟩ := hagree c
  obtain ⟨h0, h1, h2, h3, h4, h5, h6, hargs⟩ := h c
  exact ⟨h0.trans (result0 m ρ m' c e0 e1 e2 e3 e4 e5 e6 e7 e8 e9),
    h1.trans (result1 m ρ m' c e0),
    h2.trans (result2 m ρ m' c e0),
    h3.trans (result3 m ρ m' c e0 e3 e4),
    h4.trans (result4 m ρ m' c e0 e3 e4),
    h5.trans (result5 m ρ m' c e0 e3 e4 e5 e6 e9),
    h6.trans (result6 m ρ m' c e0 e3 e4 e5 e6 e9), hargs⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
